-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4x4096 : Shape := ⟨2, ![4, 4096]⟩
abbrev S16x4 : Shape := ⟨2, ![16, 4]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4x4096 : S_.BroadcastsInDim S4x4096 (![] : Fin 0 → Fin S4x4096.rank)
  reducesTo_S4x4096_S_d0_1 : S4x4096.ReducesTo [0, 1] S_

variable [Facts]

def fn {F : FTy → Type} [FloatOps F] (main_arg0 : FVec F S4096x4096 .f32) (main_arg1 : FVec F S4x4096 .f32) (main_arg2 : FVec F S16x4 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4x4096 .f32 := Host.absf main_arg1
  let main_cst_0 : FVec F S_ .f32 := constant S_ .f32 0x7F800000#32
  let main_v5 : FVec F S4x4096 .f32 := broadcastInDim S4x4096 ![] bcast_S_S4x4096 main_cst_0
  let main_v6 : IVec S4x4096 1 := cmpf .olt main_v4 main_v5
  let main_c_1 : IVec S_ 1 := constantI S_ 1 1#1
  let main_v7 : IVec S_ 1 := (fun x v => Host.reduce IntOp.andi x v reducesTo_S4x4096_S_d0_1 h_S_) main_v6 main_c_1
  let main_v8 : IVec S_ 1 := andi main_v3 main_v7
  main_v8
-- ==== Kernel.lean ====
abbrev S4096x4096 : Shape := ⟨2, ![4096, 4096]⟩
abbrev S4x4096 : Shape := ⟨2, ![4, 4096]⟩
abbrev S16x4 : Shape := ⟨2, ![16, 4]⟩
abbrev S4096x16x512 : Shape := ⟨3, ![4096, 16, 512]⟩
abbrev S1x1 : Shape := ⟨2, ![1, 1]⟩
abbrev S_ : Shape := ⟨0, ![]⟩
abbrev S512x4096 : Shape := ⟨2, ![512, 4096]⟩
abbrev S128x16x512 : Shape := ⟨3, ![128, 16, 512]⟩
abbrev S4096x16 : Shape := ⟨2, ![4096, 16]⟩
abbrev S4096x8 : Shape := ⟨2, ![4096, 8]⟩
abbrev S16 : Shape := ⟨1, ![16]⟩
abbrev S16x1 : Shape := ⟨2, ![16, 1]⟩
abbrev S4x512 : Shape := ⟨2, ![4, 512]⟩
abbrev S512x16 : Shape := ⟨2, ![512, 16]⟩
abbrev S4096 : Shape := ⟨1, ![4096]⟩
abbrev S4096x1 : Shape := ⟨2, ![4096, 1]⟩
abbrev S512x512 : Shape := ⟨2, ![512, 512]⟩
abbrev S1x16 : Shape := ⟨2, ![1, 16]⟩
abbrev S1 : Shape := ⟨1, ![1]⟩
abbrev S128x8 : Shape := ⟨2, ![128, 8]⟩
abbrev S128x1 : Shape := ⟨2, ![128, 1]⟩
abbrev S128x16 : Shape := ⟨2, ![128, 16]⟩
abbrev S128x512 : Shape := ⟨2, ![128, 512]⟩
abbrev S128x16x1 : Shape := ⟨3, ![128, 16, 1]⟩
abbrev S128x1x512 : Shape := ⟨3, ![128, 1, 512]⟩

abbrev nBuf : Space → Nat
  | .hbm => 11
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4x4096, .f32⟩
  | .hbm, ⟨2, _⟩ => ⟨S16x4, .f32⟩
  | .hbm, ⟨3, _⟩ => ⟨S4096x16x512, .f32⟩
  | .hbm, ⟨4, _⟩ => ⟨S4096x16x512, .i32⟩
  | .hbm, ⟨5, _⟩ => ⟨S1x1, .f32⟩
  | .hbm, ⟨6, _⟩ => ⟨S_, .i32⟩
  | .hbm, ⟨7, _⟩ => ⟨S4096x16x512, .i32⟩
  | .hbm, ⟨8, _⟩ => ⟨S4096x16x512, .i1⟩
  | .hbm, ⟨9, _⟩ => ⟨S4096x16x512, .i1⟩
  | .hbm, ⟨10, _⟩ => ⟨S_, .f32⟩
  | .local _ .vmem, ⟨0, _⟩ => ⟨S512x4096, .f32⟩
  | .local _ .vmem, ⟨1, _⟩ => ⟨S512x4096, .f32⟩
  | .local _ .vmem, ⟨2, _⟩ => ⟨S4x4096, .f32⟩
  | .local _ .vmem, ⟨3, _⟩ => ⟨S16x4, .f32⟩
  | .local _ .vmem, ⟨4, _⟩ => ⟨S128x16x512, .f32⟩
  | .local _ .vmem, ⟨5, _⟩ => ⟨S128x16x512, .f32⟩
  | .local _ .vmem, ⟨6, _⟩ => ⟨S128x16x512, .i32⟩
  | .local _ .vmem, ⟨7, _⟩ => ⟨S128x16x512, .i32⟩
  | .local _ .vmem, ⟨8, _⟩ => ⟨S1x1, .f32⟩
  | .local _ .vmem, ⟨9, _⟩ => ⟨S4096x16, .f32⟩
  | .local _ .vmem, ⟨10, _⟩ => ⟨S4096x8, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_1 : Ref sig .tc := ⟨.hbm, 3, rfl⟩
abbrev main_call0_v0_1 : Ref sig .tc := ⟨.hbm, 4, rfl⟩
abbrev main_call0_v0_2 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_v0_2 : Ref sig .tc := ⟨.hbm, 9, rfl⟩
abbrev main_v0_0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![41], ![false]⟩

def k0_cond1 (i : grid0.Coords) : BitVec 1 :=
  let arg0 : BitVec 32 := BitVec.ofNat 32 (i 0).val
  let c8_i32 : BitVec 32 := 8#32
  let v0 : BitVec 1 := Scalar.cmpi .slt arg0 c8_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c512_i32 : BitVec 32 := 512#32
  let v30 : BitVec 32 := Scalar.muli arg0 c512_i32
  let v31 : Index := Scalar.indexCast v30
  let c0_14 : Index := 0#32
  ![v31.toNat, 0]
def k0_cond3 (i : grid0.Coords) : BitVec 1 :=
  let arg0 : BitVec 32 := BitVec.ofNat 32 (i 0).val
  let c8_i32_2 : BitVec 32 := 8#32
  let v6 : BitVec 1 := Scalar.cmpi .sgt arg0 c8_i32_2
  let v7 : BitVec 32 := Scalar.extui v6
  let c0_i32_3 : BitVec 32 := 0#32
  let v8 : BitVec 1 := Scalar.cmpi .ne v7 c0_i32_3
  v8

def k0_off2 (i : grid0.Coords) : Fin 2 → Nat :=
  let arg0 : BitVec 32 := BitVec.ofNat 32 (i 0).val
  let c8_i32_4 : BitVec 32 := 8#32
  let v9 : BitVec 32 := Scalar.subi arg0 c8_i32_4
  let c1_i32 : BitVec 32 := 1#32
  let v10 : BitVec 32 := Scalar.subi v9 c1_i32
  let c128_i32 : BitVec 32 := 128#32
  let v11 : BitVec 32 := Scalar.muli v10 c128_i32
  let v12 : Index := Scalar.indexCast v11
  let c0 : Index := 0#32
  ![v12.toNat, 0]
def k0_cond2 (i : grid0.Coords) : BitVec 1 :=
  let arg0 : BitVec 32 := BitVec.ofNat 32 (i 0).val
  let c8_i32_0 : BitVec 32 := 8#32
  let v3 : BitVec 1 := Scalar.cmpi .eq arg0 c8_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c8_i32 : BitVec 32 := 8#32
  let v0 : BitVec 1 := Scalar.cmpi .sle arg0 c8_i32
  let c7_i32 : BitVec 32 := 7#32
  let v1 : BitVec 32 := Scalar.minsi arg0 c7_i32
  let c8_i32_0 : BitVec 32 := 8#32
  let v2 : BitVec 32 := Scalar.subi arg0 c8_i32_0
  let c1_i32 : BitVec 32 := 1#32
  let v3 : BitVec 32 := Scalar.subi v2 c1_i32
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_3 : BitVec 32 := 0#32
  let v7 : BitVec 1 := Scalar.cmpi .ne v6 c0_i32_3
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let v11 : BitVec 1 := Scalar.andi v10 v7
  let v12 : BitVec 32 := Scalar.addi v6 v5
  let v13 : BitVec 32 := Scalar.select v11 v12 v6
  let v14 : BitVec 32 := Scalar.select v0 v1 v13
  let c0_i32_6 : BitVec 32 := 0#32
  let c0_i32_7 : BitVec 32 := 0#32
  ![v14.toNat, c0_i32_6.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let v0 : BitVec 32 := Scalar.subi arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_4 (i : grid0.Coords) : Fin 3 → Nat :=
  let arg0 : BitVec 32 := BitVec.ofNat 32 (i 0).val
  let c8_i32 : BitVec 32 := 8#32
  let v0 : BitVec 32 := Scalar.subi arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![v2.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x16x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4096x4096 : Shape := ⟨2, ![4096, 4096]⟩
abbrev S4x4096 : Shape := ⟨2, ![4, 4096]⟩
abbrev S16x4 : Shape := ⟨2, ![16, 4]⟩
abbrev S4096x4 : Shape := ⟨2, ![4096, 4]⟩
abbrev S_ : Shape := ⟨0, ![]⟩
abbrev S16 : Shape := ⟨1, ![16]⟩
abbrev S16x1 : Shape := ⟨2, ![16, 1]⟩
abbrev S4x16 : Shape := ⟨2, ![4, 16]⟩
abbrev S4096x16 : Shape := ⟨2, ![4096, 16]⟩
abbrev S4096 : Shape := ⟨1, ![4096]⟩
abbrev S4096x1 : Shape := ⟨2, ![4096, 1]⟩
abbrev S1x16 : Shape := ⟨2, ![1, 16]⟩
abbrev S1x512 : Shape := ⟨2, ![1, 512]⟩
abbrev S4096x512 : Shape := ⟨2, ![4096, 512]⟩
abbrev S4096x16x1 : Shape := ⟨3, ![4096, 16, 1]⟩
abbrev S4096x1x512 : Shape := ⟨3, ![4096, 1, 512]⟩
abbrev S4096x16x512 : Shape := ⟨3, ![4096, 16, 512]⟩

abbrev nBuf : Space → Nat
  | .hbm => 178
  | .vmem => 0
  | .smem => 0
  | _ => 0

abbrev hbmTy0_0 (i : Nat) : BufTy := match i % 128 with
  | 0 => ⟨S4096x4096, .f32⟩
  | 1 => ⟨S4x4096, .f32⟩
  | 2 => ⟨S16x4, .f32⟩
  | 3 => ⟨S4096x4, .f32⟩
  | 4 => ⟨S4096x4, .f32⟩
  | 5 => ⟨S16x4, .f32⟩
  | 6 => ⟨S_, .f32⟩
  | 7 => ⟨S16, .f32⟩
  | 8 => ⟨S16x1, .f32⟩
  | 9 => ⟨S16x1, .f32⟩
  | 10 => ⟨S_, .f32⟩
  | 11 => ⟨S16x1, .f32⟩
  | 12 => ⟨S16x1, .f32⟩
  | 13 => ⟨S16x4, .f32⟩
  | 14 => ⟨S16x4, .f32⟩
  | 15 => ⟨S16x4, .f32⟩
  | 16 => ⟨S_, .f32⟩
  | 17 => ⟨S16, .f32⟩
  | 18 => ⟨S16x1, .f32⟩
  | 19 => ⟨S16x1, .f32⟩
  | 20 => ⟨S_, .f32⟩
  | 21 => ⟨S16x1, .f32⟩
  | 22 => ⟨S16x1, .f32⟩
  | 23 => ⟨S16x4, .f32⟩
  | 24 => ⟨S16x4, .f32⟩
  | 25 => ⟨S4x16, .f32⟩
  | 26 => ⟨S4096x16, .f32⟩
  | 27 => ⟨S4096x16, .f32⟩
  | 28 => ⟨S_, .f32⟩
  | 29 => ⟨S4096x16, .f32⟩
  | 30 => ⟨S4096x16, .i1⟩
  | 31 => ⟨S_, .f32⟩
  | 32 => ⟨S_, .f32⟩
  | 33 => ⟨S4096x16, .f32⟩
  | 34 => ⟨S4096x16, .f32⟩
  | 35 => ⟨S_, .f32⟩
  | 36 => ⟨S_, .f32⟩
  | 37 => ⟨S4096x16, .f32⟩
  | 38 => ⟨S4096x16, .f32⟩
  | 39 => ⟨S_, .f32⟩
  | 40 => ⟨S4096, .f32⟩
  | 41 => ⟨S_, .f32⟩
  | 42 => ⟨S4096, .f32⟩
  | 43 => ⟨S4096, .f32⟩
  | 44 => ⟨S4096x1, .f32⟩
  | 45 => ⟨S4096x16, .f32⟩
  | 46 => ⟨S4096x16, .f32⟩
  | 47 => ⟨S4096x16, .f32⟩
  | 48 => ⟨S_, .f32⟩
  | 49 => ⟨S4096, .f32⟩
  | 50 => ⟨S4096x1, .f32⟩
  | 51 => ⟨S4096x16, .f32⟩
  | 52 => ⟨S4096x16, .f32⟩
  | 53 => ⟨S4096x16, .i32⟩
  | 54 => ⟨S_, .f32⟩
  | 55 => ⟨S_, .i32⟩
  | 56 => ⟨S4096, .f32⟩
  | 57 => ⟨S4096, .i32⟩
  | 58 => ⟨S4096x1, .i32⟩
  | 59 => ⟨S1x16, .i32⟩
  | 60 => ⟨S4096x16, .i32⟩
  | 61 => ⟨S4096x16, .i32⟩
  | 62 => ⟨S4096x16, .i1⟩
  | 63 => ⟨S4096x16, .f32⟩
  | 64 => ⟨S_, .f32⟩
  | 65 => ⟨S4096x16, .f32⟩
  | 66 => ⟨S4096x16, .i1⟩
  | 67 => ⟨S_, .f32⟩
  | 68 => ⟨S_, .f32⟩
  | 69 => ⟨S4096x16, .f32⟩
  | 70 => ⟨S4096x16, .f32⟩
  | 71 => ⟨S4096x16, .i32⟩
  | 72 => ⟨S_, .f32⟩
  | 73 => ⟨S_, .i32⟩
  | 74 => ⟨S4096, .f32⟩
  | 75 => ⟨S4096, .i32⟩
  | 76 => ⟨S4096x1, .i32⟩
  | 77 => ⟨S1x16, .i32⟩
  | 78 => ⟨S4096x16, .i32⟩
  | 79 => ⟨S4096x16, .i32⟩
  | 80 => ⟨S4096x16, .i1⟩
  | 81 => ⟨S4096x16, .f32⟩
  | 82 => ⟨S_, .f32⟩
  | 83 => ⟨S_, .f32⟩
  | 84 => ⟨S4096x16, .f32⟩
  | 85 => ⟨S_, .f32⟩
  | 86 => ⟨S4096x16, .f32⟩
  | 87 => ⟨S4096x16, .f32⟩
  | 88 => ⟨S_, .f32⟩
  | 89 => ⟨S_, .f32⟩
  | 90 => ⟨S4096x16, .f32⟩
  | 91 => ⟨S_, .f32⟩
  | 92 => ⟨S4096x16, .f32⟩
  | 93 => ⟨S4096x16, .f32⟩
  | 94 => ⟨S_, .f32⟩
  | 95 => ⟨S16, .f32⟩
  | 96 => ⟨S1x16, .f32⟩
  | 97 => ⟨S4096x16, .f32⟩
  | 98 => ⟨S4096x16, .f32⟩
  | 99 => ⟨S_, .f32⟩
  | 100 => ⟨S16, .f32⟩
  | 101 => ⟨S_, .f32⟩
  | 102 => ⟨S16, .f32⟩
  | 103 => ⟨S16, .f32⟩
  | 104 => ⟨S_, .f32⟩
  | 105 => ⟨S16, .f32⟩
  | 106 => ⟨S_, .f32⟩
  | 107 => ⟨S16, .f32⟩
  | 108 => ⟨S16, .f32⟩
  | 109 => ⟨S16, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S4096x16, .f32⟩
  | 118 => ⟨S4096x16, .i1⟩
  | 119 => ⟨S4096x16, .f32⟩
  | 120 => ⟨S4096x16, .f32⟩
  | 121 => ⟨S_, .f32⟩
  | 122 => ⟨S4096x16, .f32⟩
  | 123 => ⟨S4096x16, .i1⟩
  | 124 => ⟨S4096x16, .f32⟩
  | 125 => ⟨S4096x16, .f32⟩
  | 126 => ⟨S4096x16, .f32⟩
  | 127 => ⟨S_, .f32⟩
  | _ => ⟨S4096x4096, .f32⟩

abbrev hbmTy0_1 (i : Nat) : BufTy := match i % 128 with
  | 0 => ⟨S4096, .f32⟩
  | 1 => ⟨S4096x16, .f32⟩
  | 2 => ⟨S_, .f32⟩
  | 3 => ⟨S4096, .f32⟩
  | 4 => ⟨S4096, .f32⟩
  | 5 => ⟨S_, .f32⟩
  | 6 => ⟨S4096, .f32⟩
  | 7 => ⟨S4096, .f32⟩
  | 8 => ⟨S4096, .f32⟩
  | 9 => ⟨S4096, .f32⟩
  | 10 => ⟨S4096x16, .f32⟩
  | 11 => ⟨S_, .f32⟩
  | 12 => ⟨S4096, .f32⟩
  | 13 => ⟨S4096, .i32⟩
  | 14 => ⟨S4096x16, .f32⟩
  | 15 => ⟨S_, .f32⟩
  | 16 => ⟨S4096, .f32⟩
  | 17 => ⟨S4096, .i32⟩
  | 18 => ⟨S4096x1, .f32⟩
  | 19 => ⟨S4096x16, .f32⟩
  | 20 => ⟨S4096x16, .f32⟩
  | 21 => ⟨S4096x1, .f32⟩
  | 22 => ⟨S4096x16, .f32⟩
  | 23 => ⟨S4096x16, .f32⟩
  | 24 => ⟨S4096x1, .i32⟩
  | 25 => ⟨S1x512, .i32⟩
  | 26 => ⟨S4096x512, .i32⟩
  | 27 => ⟨S4096x512, .i32⟩
  | 28 => ⟨S4096x512, .i1⟩
  | 29 => ⟨S4096x512, .f32⟩
  | 30 => ⟨S4096x1, .i32⟩
  | 31 => ⟨S1x512, .i32⟩
  | 32 => ⟨S4096x512, .i32⟩
  | 33 => ⟨S4096x512, .i32⟩
  | 34 => ⟨S4096x512, .i1⟩
  | 35 => ⟨S4096x512, .f32⟩
  | 36 => ⟨S4096x16x1, .f32⟩
  | 37 => ⟨S4096x1x512, .f32⟩
  | 38 => ⟨S4096x16x512, .f32⟩
  | 39 => ⟨S4096x16x512, .f32⟩
  | 40 => ⟨S4096x16x512, .f32⟩
  | 41 => ⟨S4096x16x1, .f32⟩
  | 42 => ⟨S4096x1x512, .f32⟩
  | 43 => ⟨S4096x16x512, .f32⟩
  | 44 => ⟨S4096x16x512, .f32⟩
  | 45 => ⟨S4096x16x512, .f32⟩
  | 46 => ⟨S4096x16x512, .f32⟩
  | 47 => ⟨S_, .f32⟩
  | 48 => ⟨S4096x16x512, .f32⟩
  | 49 => ⟨S4096x16x512, .i1⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_call2_v0 : Ref sig .tc := ⟨.hbm, 32, rfl⟩
abbrev main_call2_v1 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_call3_v0 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call4_v0 : Ref sig .tc := ⟨.hbm, 53, rfl⟩
abbrev main_call4_cst : Ref sig .tc := ⟨.hbm, 54, rfl⟩
abbrev main_call4_c : Ref sig .tc := ⟨.hbm, 55, rfl⟩
abbrev main_call4_v1_0 : Ref sig .tc := ⟨.hbm, 56, rfl⟩
abbrev main_v31 : Ref sig .tc := ⟨.hbm, 57, rfl⟩
abbrev main_call5_v0 : Ref sig .tc := ⟨.hbm, 58, rfl⟩
abbrev main_call5_v1 : Ref sig .tc := ⟨.hbm, 59, rfl⟩
abbrev main_call5_v2 : Ref sig .tc := ⟨.hbm, 60, rfl⟩
abbrev main_call5_v3 : Ref sig .tc := ⟨.hbm, 61, rfl⟩
abbrev main_call5_v4 : Ref sig .tc := ⟨.hbm, 62, rfl⟩
abbrev main_v32 : Ref sig .tc := ⟨.hbm, 63, rfl⟩
abbrev main_cst_7 : Ref sig .tc := ⟨.hbm, 64, rfl⟩
abbrev main_v33 : Ref sig .tc := ⟨.hbm, 65, rfl⟩
abbrev main_v34 : Ref sig .tc := ⟨.hbm, 66, rfl⟩
abbrev main_cst_8 : Ref sig .tc := ⟨.hbm, 67, rfl⟩
abbrev main_call6_v0 : Ref sig .tc := ⟨.hbm, 68, rfl⟩
abbrev main_call6_v1 : Ref sig .tc := ⟨.hbm, 69, rfl⟩
abbrev main_v35 : Ref sig .tc := ⟨.hbm, 70, rfl⟩
abbrev main_call7_v0 : Ref sig .tc := ⟨.hbm, 71, rfl⟩
abbrev main_call7_cst : Ref sig .tc := ⟨.hbm, 72, rfl⟩
abbrev main_call7_c : Ref sig .tc := ⟨.hbm, 73, rfl⟩
abbrev main_call7_v1_0 : Ref sig .tc := ⟨.hbm, 74, rfl⟩
abbrev main_v36 : Ref sig .tc := ⟨.hbm, 75, rfl⟩
abbrev main_call8_v0 : Ref sig .tc := ⟨.hbm, 76, rfl⟩
abbrev main_call8_v1 : Ref sig .tc := ⟨.hbm, 77, rfl⟩
abbrev main_call8_v2 : Ref sig .tc := ⟨.hbm, 78, rfl⟩
abbrev main_call8_v3 : Ref sig .tc := ⟨.hbm, 79, rfl⟩
abbrev main_call8_v4 : Ref sig .tc := ⟨.hbm, 80, rfl⟩
abbrev main_v37 : Ref sig .tc := ⟨.hbm, 81, rfl⟩
abbrev main_call9_call0_cst : Ref sig .tc := ⟨.hbm, 82, rfl⟩
abbrev main_call9_call0_v0 : Ref sig .tc := ⟨.hbm, 83, rfl⟩
abbrev main_v38 : Ref sig .tc := ⟨.hbm, 84, rfl⟩
abbrev main_cst_9 : Ref sig .tc := ⟨.hbm, 85, rfl⟩
abbrev main_v39 : Ref sig .tc := ⟨.hbm, 86, rfl⟩
abbrev main_v40 : Ref sig .tc := ⟨.hbm, 87, rfl⟩
abbrev main_call10_call0_cst : Ref sig .tc := ⟨.hbm, 88, rfl⟩
abbrev main_call10_call0_v0 : Ref sig .tc := ⟨.hbm, 89, rfl⟩
abbrev main_v41 : Ref sig .tc := ⟨.hbm, 90, rfl⟩
abbrev main_cst_10 : Ref sig .tc := ⟨.hbm, 91, rfl⟩
abbrev main_v42 : Ref sig .tc := ⟨.hbm, 92, rfl⟩
abbrev main_v43 : Ref sig .tc := ⟨.hbm, 93, rfl⟩
abbrev main_cst_11 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_cst_12 : Ref sig .tc := ⟨.hbm, 99, rfl⟩
abbrev main_v48 : Ref sig .tc := ⟨.hbm, 100, rfl⟩
abbrev main_cst_13 : Ref sig .tc := ⟨.hbm, 101, rfl⟩
abbrev main_v49 : Ref sig .tc := ⟨.hbm, 102, rfl⟩
abbrev main_v50 : Ref sig .tc := ⟨.hbm, 103, rfl⟩
abbrev main_cst_14 : Ref sig .tc := ⟨.hbm, 104, rfl⟩
abbrev main_v51 : Ref sig .tc := ⟨.hbm, 105, rfl⟩
abbrev main_cst_15 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_cst_16 : Ref sig .tc := ⟨.hbm, 110, rfl⟩
abbrev main_v55 : Ref sig .tc := ⟨.hbm, 111, rfl⟩
abbrev main_cst_17 : Ref sig .tc := ⟨.hbm, 112, rfl⟩
abbrev main_v56 : Ref sig .tc := ⟨.hbm, 113, rfl⟩
abbrev main_cst_18 : Ref sig .tc := ⟨.hbm, 114, rfl⟩
abbrev main_v57 : Ref sig .tc := ⟨.hbm, 115, rfl⟩
abbrev main_cst_19 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_cst_20 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_cst_21 : Ref sig .tc := ⟨.hbm, 127, rfl⟩
abbrev main_v67 : Ref sig .tc := ⟨.hbm, 128, rfl⟩
abbrev main_v68 : Ref sig .tc := ⟨.hbm, 129, rfl⟩
abbrev main_cst_22 : Ref sig .tc := ⟨.hbm, 130, rfl⟩
abbrev main_v69 : Ref sig .tc := ⟨.hbm, 131, rfl⟩
abbrev main_v70 : Ref sig .tc := ⟨.hbm, 132, rfl⟩
abbrev main_cst_23 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_cst_24 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_cst_25 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_call11_v0 : Ref sig .tc := ⟨.hbm, 152, rfl⟩
abbrev main_call11_v1 : Ref sig .tc := ⟨.hbm, 153, rfl⟩
abbrev main_call11_v2 : Ref sig .tc := ⟨.hbm, 154, rfl⟩
abbrev main_call11_v3 : Ref sig .tc := ⟨.hbm, 155, rfl⟩
abbrev main_call11_v4 : Ref sig .tc := ⟨.hbm, 156, rfl⟩
abbrev main_v87 : Ref sig .tc := ⟨.hbm, 157, rfl⟩
abbrev main_call12_v0 : Ref sig .tc := ⟨.hbm, 158, rfl⟩
abbrev main_call12_v1 : Ref sig .tc := ⟨.hbm, 159, rfl⟩
abbrev main_call12_v2 : Ref sig .tc := ⟨.hbm, 160, rfl⟩
abbrev main_call12_v3 : Ref sig .tc := ⟨.hbm, 161, rfl⟩
abbrev main_call12_v4 : Ref sig .tc := ⟨.hbm, 162, rfl⟩
abbrev main_v88 : Ref sig .tc := ⟨.hbm, 163, rfl⟩
abbrev main_v89 : Ref sig .tc := ⟨.hbm, 164, rfl⟩
abbrev main_v90 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_v96 : Ref sig .tc := ⟨.hbm, 171, rfl⟩
abbrev main_v97 : Ref sig .tc := ⟨.hbm, 172, rfl⟩
abbrev main_v98 : Ref sig .tc := ⟨.hbm, 173, rfl⟩
abbrev main_v99 : Ref sig .tc := ⟨.hbm, 174, rfl⟩
abbrev main_cst_26 : Ref sig .tc := ⟨.hbm, 175, rfl⟩
abbrev main_v100 : Ref sig .tc := ⟨.hbm, 176, rfl⟩
abbrev main_v101 : Ref sig .tc := ⟨.hbm, 177, rfl⟩

abbrev nD : Nat := 1
abbrev τ : Topo := Topo.v7x

variable {F : FTy → Type} [FloatOps F]
-- ==== Proof.PI.Phases.lean ====
/-
  The kernel body, phase by phase. At a grid point exactly one of its three conditions holds: below 8 it computes one
  block of logits and stores it in its rows of the first scratch array (phase A), at 8 it reads the whole logits
  array and computes the per-token columns of the second scratch array and the auxiliary loss (phase B), above 8 it
  reads 128 rows of the columns and writes one block of each of the two big results (phase C). Each theorem here runs
  the body under one of the conditions, on any memrefs holding any values, and says what every memref holds after it.
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Phases

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## Reading and writing a whole block -/

/-- A load of a whole two-axis block reads the block. -/
theorem readAt_whole2 {sp : Space} {s : Shape} {e : EltTy} (M : Memref sig .tc sp s e) (f : M.view.ty.Contents (Elt F))
    {off : Fin s.rank → ℕ} (h : ∀ a, off a = 0) (inb : ∀ a, off a + s.size a ≤ s.size a) :
    View.readAt (Elt F) M.view (Rect.unit (s := s) off s.size inb).toLoadRect f = View.read (Elt F) M.view f := by
  rw [View.readAt_eq_ld]; exact View.ld_unit_zero (funext h) inb _

/-- A store of a whole block leaves the stored value. -/
theorem read_store_whole {sp : Space} {s : Shape} {e : EltTy} (M : Memref sig .tc sp s e) (f : M.view.ty.Contents (Elt F))
    {off : Fin s.rank → ℕ} (h : ∀ a, off a = 0) (inb : ∀ a, off a + s.size a ≤ s.size a) (w : s.Idx → Elt F e) :
    View.read (Elt F) M.view (M.view.writes (Elt F) f [⟨Rect.unit (s := s) off s.size inb, w⟩]) = w := by
  funext y
  exact View.read_writes_cons_hit_of_coords M.view f (Rect.unit (s := s) off s.size inb) w [] y y
    (fun a => by show _ = off a + 1 * _; rw [h a]; omega)

/-! ## What the gating phase computes of the logits -/

/-- The zero block the running sums start from. -/
abbrev zero16 : FVec F S512x16 .f32 := constant S512x16 .f32 0x00000000#32

/-- The tokens' places in their first expert's queue: the running count of the first mask, less one. -/
def loc1 (z : Vec F S4096x16 .f32) : FVec F S4096x16 .f32 :=
  k0_pay33 (k0_pay30 (k0_pay8 z) k0_pay11 k0_pay12 (k0_pay13 z) zero16)

/-- The tokens' places in their second expert's queue, behind every first choice of that expert. -/
def loc2 (z : Vec F S4096x16 .f32) : FVec F S4096x16 .f32 :=
  k0_pay34 (k0_pay10 z) k0_pay11 (k0_pay29 (k0_pay8 z) k0_pay11 k0_pay12 (k0_pay13 z) zero16) k0_pay31
    (k0_pay32 (k0_pay10 z) k0_pay11)

/-- The six columns: first weight, first place, first expert, second weight, second place, second expert. -/
def col0 (z : Vec F S4096x16 .f32) : FVec F S4096x1 .f32 := k0_pay40 (k0_pay6 z) (k0_pay8 z) (k0_pay10 z) (loc1 z) (loc2 z)
def col1 (z : Vec F S4096x16 .f32) : FVec F S4096x1 .f32 := k0_pay41 (k0_pay8 z) (loc1 z)
def col2 (z : Vec F S4096x16 .f32) : FVec F S4096x1 .f32 := k0_pay42 (k0_pay7 z)
def col3 (z : Vec F S4096x16 .f32) : FVec F S4096x1 .f32 := k0_pay43 (k0_pay6 z) (k0_pay8 z) (k0_pay10 z) (loc1 z) (loc2 z)
def col4 (z : Vec F S4096x16 .f32) : FVec F S4096x1 .f32 := k0_pay2 (k0_pay44 (k0_pay10 z) (loc2 z))
def col5 (z : Vec F S4096x16 .f32) : FVec F S4096x1 .f32 := k0_pay3 (k0_pay9 z)

/-- The auxiliary loss. -/
def laux (z : Vec F S4096x16 .f32) : FVec F S1x1 .f32 := k0_pay4 (k0_pay6 z) (k0_pay8 z)

/-- `v` holds the six columns computed of `z` (its last two columns are never written). -/
def HoldsCols (z : Vec F S4096x16 .f32) (v : Vec F S4096x8 .f32) : Prop :=
  (∀ x, v ((Rect.unit (s := S4096x8) ![0, 0] S4096x1.size inb_S4096x8_S4096x1_0_0).emb x) = col0 z x)
  ∧ (∀ x, v ((Rect.unit (s := S4096x8) ![0, 1] S4096x1.size inb_S4096x8_S4096x1_0_1).emb x) = col1 z x)
  ∧ (∀ x, v ((Rect.unit (s := S4096x8) ![0, 2] S4096x1.size inb_S4096x8_S4096x1_0_2).emb x) = col2 z x)
  ∧ (∀ x, v ((Rect.unit (s := S4096x8) ![0, 3] S4096x1.size inb_S4096x8_S4096x1_0_3).emb x) = col3 z x)
  ∧ (∀ x, v ((Rect.unit (s := S4096x8) ![0, 4] S4096x1.size inb_S4096x8_S4096x1_0_4).emb x) = col4 z x)
  ∧ (∀ x, v ((Rect.unit (s := S4096x8) ![0, 5] S4096x1.size inb_S4096x8_S4096x1_0_5).emb x) = col5 z x)

/-- Six stores of whole columns, the newest first, leave the six columns, whatever was there. -/
theorem holdsCols_writes (M : Memref sig .tc .vmem S4096x8 .f32) (f : M.view.ty.Contents (Elt F)) (z : Vec F S4096x16 .f32) :
    HoldsCols z (View.read (Elt F) M.view (M.view.writes (Elt F) f
      [⟨Rect.unit (s := S4096x8) ![0, 5] S4096x1.size inb_S4096x8_S4096x1_0_5, col5 z⟩,
       ⟨Rect.unit (s := S4096x8) ![0, 4] S4096x1.size inb_S4096x8_S4096x1_0_4, col4 z⟩,
       ⟨Rect.unit (s := S4096x8) ![0, 3] S4096x1.size inb_S4096x8_S4096x1_0_3, col3 z⟩,
       ⟨Rect.unit (s := S4096x8) ![0, 2] S4096x1.size inb_S4096x8_S4096x1_0_2, col2 z⟩,
       ⟨Rect.unit (s := S4096x8) ![0, 1] S4096x1.size inb_S4096x8_S4096x1_0_1, col1 z⟩,
       ⟨Rect.unit (s := S4096x8) ![0, 0] S4096x1.size inb_S4096x8_S4096x1_0_0, col0 z⟩])) := by
  have miss : ∀ (k : ℕ) (inb : ∀ a, (![0, k] : Fin 2 → ℕ) a + S4096x1.size a ≤ S4096x8.size a) (w : S4096x1.Idx → Elt F .f32)
      (L : List (View.Piece (Elt F) S4096x8 .f32)) (y : S4096x8.Idx), (y 1).val ≠ k →
      View.read (Elt F) M.view (M.view.writes (Elt F) f (⟨Rect.unit (s := S4096x8) ![0, k] S4096x1.size inb, w⟩ :: L)) y
        = View.read (Elt F) M.view (M.view.writes (Elt F) f L) y := by
    intro k inb w L y hne
    refine View.read_writes_cons_miss _ _ _ _ _ fun hm => ?_
    rw [Rect.mem_set_unit] at hm
    have h2 : k ≤ (y 1).val ∧ (y 1).val < k + 1 := hm 1
    omega
  have at1 : ∀ (k : ℕ) (inb : ∀ a, (![0, k] : Fin 2 → ℕ) a + S4096x1.size a ≤ S4096x8.size a) (x : S4096x1.Idx),
      ((Rect.unit (s := S4096x8) ![0, k] S4096x1.size inb).emb x 1).val = k := by
    intro k inb x
    rw [Rect.emb_apply]
    have hx : (x 1).val < 1 := (x 1).isLt
    show k + 1 * (x 1).val = k
    omega
  have ne : ∀ (k k' : ℕ) (inb : ∀ a, (![0, k] : Fin 2 → ℕ) a + S4096x1.size a ≤ S4096x8.size a) (x : S4096x1.Idx), k ≠ k' →
      ((Rect.unit (s := S4096x8) ![0, k] S4096x1.size inb).emb x 1).val ≠ k' := fun k k' inb x h => by rw [at1]; exact h
  refine ⟨fun x => ?_, fun x => ?_, fun x => ?_, fun x => ?_, fun x => ?_, fun x => ?_⟩
  · exact (miss 5 _ _ _ _ (ne 0 5 _ x (by decide))).trans <|
      (miss 4 _ _ _ _ (ne 0 4 _ x (by decide))).trans <|
      (miss 3 _ _ _ _ (ne 0 3 _ x (by decide))).trans <|
      (miss 2 _ _ _ _ (ne 0 2 _ x (by decide))).trans <|
      (miss 1 _ _ _ _ (ne 0 1 _ x (by decide))).trans <|
      View.read_writes_cons_emb _ _ _ _ _ _
  · exact (miss 5 _ _ _ _ (ne 1 5 _ x (by decide))).trans <|
      (miss 4 _ _ _ _ (ne 1 4 _ x (by decide))).trans <|
      (miss 3 _ _ _ _ (ne 1 3 _ x (by decide))).trans <|
      (miss 2 _ _ _ _ (ne 1 2 _ x (by decide))).trans <|
      View.read_writes_cons_emb _ _ _ _ _ _
  · exact (miss 5 _ _ _ _ (ne 2 5 _ x (by decide))).trans <|
      (miss 4 _ _ _ _ (ne 2 4 _ x (by decide))).trans <|
      (miss 3 _ _ _ _ (ne 2 3 _ x (by decide))).trans <|
      View.read_writes_cons_emb _ _ _ _ _ _
  · exact (miss 5 _ _ _ _ (ne 3 5 _ x (by decide))).trans <|
      (miss 4 _ _ _ _ (ne 3 4 _ x (by decide))).trans <|
      View.read_writes_cons_emb _ _ _ _ _ _
  · exact (miss 5 _ _ _ _ (ne 4 5 _ x (by decide))).trans <|
      View.read_writes_cons_emb _ _ _ _ _ _
  · exact View.read_writes_cons_emb _ _ _ _ _ _

/-! ## The three phases -/

variable (c : Dev nD) (i : grid0.Coords)
  (arg1 : Memref sig .tc .vmem S512x4096 .f32) (harg1 : arg1.IsWhole)
  (arg2 : Memref sig .tc .vmem S4x4096 .f32) (harg2 : arg2.IsWhole)
  (arg3 : Memref sig .tc .vmem S16x4 .f32) (harg3 : arg3.IsWhole)
  (arg4 : Memref sig .tc .vmem S128x16x512 .f32) (harg4 : arg4.IsWhole)
  (arg5 : Memref sig .tc .vmem S128x16x512 .i32) (harg5 : arg5.IsWhole)
  (arg6 : Memref sig .tc .vmem S1x1 .f32) (harg6 : arg6.IsWhole)
  (arg7 : Memref sig .tc .vmem S4096x16 .f32) (harg7 : arg7.IsWhole)
  (arg8 : Memref sig .tc .vmem S4096x8 .f32) (harg8 : arg8.IsWhole)

/-- The rows of the logits array that the body writes at a point of phase A. -/
abbrev rowsA (h1 : k0_cond1 i = 1#1) : Rect S4096x16 :=
  Rect.unit (s := S4096x16) (k0_off1 i) S512x16.size (k0_off1_inb i h1)

/-- The rows of the columns that the body reads at a point of phase C. -/
abbrev rowsC (h3 : k0_cond3 i = 1#1) : Rect S4096x8 :=
  Rect.unit (s := S4096x8) (k0_off2 i) S128x8.size (k0_off2_inb i h3)

set_option maxHeartbeats 4000000 in
/-- Phase A: the block of logits goes to its rows of the first scratch array; the other rows keep what they held. -/
theorem phaseA (h1 : k0_cond1 i = 1#1) (h2 : ¬ k0_cond2 i = 1#1) (h3 : ¬ k0_cond3 i = 1#1)
    (x1 : Vec F S512x4096 .f32) (x2 : Vec F S4x4096 .f32) (x3 : Vec F S16x4 .f32) (z : Vec F S4096x16 .f32)
    (K : PUnit → sProp 𝕄) :
    iprop(owns c arg1 fullShare x1 ∗ owns c arg2 fullShare x2 ∗ owns c arg3 fullShare x3 ∗ owns c arg7 fullShare z
        ∗ (iprop(owns c arg1 fullShare x1 ∗ owns c arg2 fullShare x2 ∗ owns c arg3 fullShare x3
            ∗ (∃ z', ⌜(∀ x, z' ((rowsA i h1).emb x) = k0_pay1 x1 x2 x3 x)
                ∧ (∀ y, y ∉ (rowsA i h1).set → z' y = z y)⌝
              ∗ owns c arg7 fullShare z')) -∗ K ⟨⟩))
      ⊢ wp frame (wpE (defs₀ (F := F)) Variants.none c none) Set.univ
          (cc0__fused_kernel i arg1 harg1 arg2 harg2 arg3 harg3 arg4 harg4 arg5 harg5 arg6 harg6 arg7 harg7 arg8 harg8) K := by
  rw [cc0__fused_kernel_eq_skeleton]
  unfold owns
  iintro ⟨⟨%f1, %hf1, H1⟩, ⟨%f2, %hf2, H2⟩, ⟨%f3, %hf3, H3⟩, ⟨%f7, %hf7, H7⟩, Hk⟩
  subst hf1 hf2 hf3 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists (View.read (Elt F) arg7.view _)
  isplitr
  swap
  · iexists _; isplitr
    swap; · iexact H7
    ipureintro; rfl
  · ipureintro
    rw [readAt_whole2 arg1 f1 (by decide), readAt_whole2 arg2 f2 (by decide), readAt_whole2 arg3 f3 (by decide)]
    exact ⟨fun x => View.read_writes_cons_emb _ _ _ _ _ _, fun y hy => View.read_writes_cons_miss _ _ _ _ _ hy⟩

set_option maxHeartbeats 4000000 in
/-- Phase B: of the logits array, the auxiliary loss and the six columns. -/
theorem phaseB (h1 : ¬ k0_cond1 i = 1#1) (h2 : k0_cond2 i = 1#1) (h3 : ¬ k0_cond3 i = 1#1)
    (z : Vec F S4096x16 .f32) (K : PUnit → sProp 𝕄) :
    iprop((∃ d, owns c arg6 fullShare d) ∗ owns c arg7 fullShare z ∗ (∃ d, owns c arg8 fullShare d)
        ∗ (iprop(owns c arg6 fullShare (laux z) ∗ owns c arg7 fullShare z
            ∗ (∃ v, ⌜HoldsCols z v⌝ ∗ owns c arg8 fullShare v)) -∗ K ⟨⟩))
      ⊢ wp frame (wpE (defs₀ (F := F)) Variants.none c none) Set.univ
          (cc0__fused_kernel i arg1 harg1 arg2 harg2 arg3 harg3 arg4 harg4 arg5 harg5 arg6 harg6 arg7 harg7 arg8 harg8) K := by
  rw [cc0__fused_kernel_eq_skeleton]
  unfold owns
  iintro ⟨⟨%d6, %f6, -, H6⟩, ⟨%f7, %hf7, H7⟩, ⟨%d8, %f8, -, H8⟩, Hk⟩
  subst hf7
  sl_exec
  sl_step
  have hz := readAt_whole2 arg7 f7 (off := ![0, 0]) (by decide) inb_S4096x16_S4096x16_0_0
  iapply Hk
  isplitl [H6]
  · iexists _; isplitr
    swap; · iexact H6
    ipureintro
    rw [read_store_whole arg6 f6 (by decide)]
    delta phaseB.sl.r phaseB.sl.r_2
    rw [hz]
    rfl
  isplitl [H7]
  · iexists f7; isplitr; · ipureintro; rfl
    iexact H7
  iexists (View.read (Elt F) arg8.view _)
  isplitr
  swap
  · iexists _; isplitr
    swap; · iexact H8
    ipureintro; rfl
  · ipureintro
    delta phaseB.sl.r phaseB.sl.r_1 phaseB.sl.r_2 phaseB.sl.r_3 phaseB.sl.r_4 phaseB.sl.r_9 phaseB.sl.r_10 phaseB.sl.r_11
    delta phaseB.sl.r_5 phaseB.sl.r_6 phaseB.sl.r_7 phaseB.sl.r_8 phaseB.sl.r phaseB.sl.r_2 phaseB.sl.r_4
    rw [hz]
    exact holdsCols_writes arg8 f8 _

set_option maxHeartbeats 4000000 in
/-- Phase C: of the point's 128 rows of the columns, one block of each big result. -/
theorem phaseC (h1 : ¬ k0_cond1 i = 1#1) (h2 : ¬ k0_cond2 i = 1#1) (h3 : k0_cond3 i = 1#1)
    (v : Vec F S4096x8 .f32) (K : PUnit → sProp 𝕄) :
    iprop((∃ d, owns c arg4 fullShare d) ∗ (∃ d, owns c arg5 fullShare d) ∗ owns c arg8 fullShare v
        ∗ (iprop(owns c arg4 fullShare (k0_pay45 (fun x => v ((rowsC i h3).emb x)))
            ∗ owns c arg5 fullShare (k0_pay5 (k0_pay46 (fun x => v ((rowsC i h3).emb x))))
            ∗ owns c arg8 fullShare v) -∗ K ⟨⟩))
      ⊢ wp frame (wpE (defs₀ (F := F)) Variants.none c none) Set.univ
          (cc0__fused_kernel i arg1 harg1 arg2 harg2 arg3 harg3 arg4 harg4 arg5 harg5 arg6 harg6 arg7 harg7 arg8 harg8) K := by
  rw [cc0__fused_kernel_eq_skeleton]
  unfold owns
  iintro ⟨⟨%d4, %f4, -, H4⟩, ⟨%d5, %f5, -, H5⟩, ⟨%f8, %hf8, H8⟩, Hk⟩
  subst hf8
  sl_exec
  sl_step
  iapply Hk
  isplitl [H4]
  · iexists _; isplitr
    swap; · iexact H4
    ipureintro
    exact read_store_whole arg4 f4 (by decide) _ _
  isplitl [H5]
  · iexists _; isplitr
    swap; · iexact H5
    ipureintro
    exact read_store_whole arg5 f5 (by decide) _ _
  iexists f8; isplitr; · ipureintro; rfl
  iexact H8

end Cert.KernelIdeal.Phases

end
-- ==== Proof.PI.Points.lean ====
/-
  The 41 grid points: which phase each one is in, which rows its loads and stores of the two scratch arrays touch, and
  at which points the windows of the results are idle and written back.
-/
module

public import proofs.«01_k».proof.Proof.PI.Phases

@[expose] public section

set_option maxRecDepth 16384

noncomputable section

namespace Cert.KernelIdeal.Phases

open Cert.KernelIdeal Cert.KernelIdeal.Gen
open Idealize.ShloMosaic Idealize.ShloMosaic.TcCoe

variable {F : FTy → Type} [FloatOps F]

/-! ## The phase of a point -/

theorem cond1_iff : ∀ t : Fin cfg0.N, k0_cond1 (grid0.coords t) = 1#1 ↔ t.val < 8 :=
  (by decide +kernel : ∀ t : Fin grid0.N, k0_cond1 (grid0.coords t) = 1#1 ↔ t.val < 8)
theorem cond2_iff : ∀ t : Fin cfg0.N, k0_cond2 (grid0.coords t) = 1#1 ↔ t.val = 8 :=
  (by decide +kernel : ∀ t : Fin grid0.N, k0_cond2 (grid0.coords t) = 1#1 ↔ t.val = 8)
theorem cond3_iff : ∀ t : Fin cfg0.N, k0_cond3 (grid0.coords t) = 1#1 ↔ 8 < t.val :=
  (by decide +kernel : ∀ t : Fin grid0.N, k0_cond3 (grid0.coords t) = 1#1 ↔ 8 < t.val)

/-- A point of phase A stores rows `512 t` and on. -/
theorem off1_val : ∀ t : Fin cfg0.N, t.val < 8 → k0_off1 (grid0.coords t) 0 = 512 * t.val ∧ k0_off1 (grid0.coords t) 1 = 0 :=
  (by decide +kernel : ∀ t : Fin grid0.N, t.val < 8 → k0_off1 (grid0.coords t) 0 = 512 * t.val ∧ k0_off1 (grid0.coords t) 1 = 0)
/-- A point of phase C reads rows `128 (t - 9)` and on. -/
theorem off2_val : ∀ t : Fin cfg0.N, 8 < t.val → k0_off2 (grid0.coords t) 0 = 128 * (t.val - 9) ∧ k0_off2 (grid0.coords t) 1 = 0 :=
  (by decide +kernel : ∀ t : Fin grid0.N, 8 < t.val → k0_off2 (grid0.coords t) 0 = 128 * (t.val - 9) ∧ k0_off2 (grid0.coords t) 1 = 0)

/-! ## The result windows' schedule -/

theorem flush3_iff : ∀ t : Fin cfg0.N, (cfg0.win 3).flush t = true ↔ 8 < t.val :=
  (by decide +kernel : ∀ t : Fin grid0.N, win0_3.flush t = true ↔ 8 < t.val)
theorem flush4_iff : ∀ t : Fin cfg0.N, (cfg0.win 4).flush t = true ↔ 8 < t.val :=
  (by decide +kernel : ∀ t : Fin grid0.N, win0_4.flush t = true ↔ 8 < t.val)
theorem flush5_iff (t : Fin cfg0.N) : (cfg0.win 5).flush t = true ↔ t.val = 40 := by
  have h : t.val < 41 := N_0 ▸ t.isLt
  rw [flush0_5]; omega

theorem idle3_iff (t : Fin cfg0.N) : cfg0.idle 3 (cfg0.grid.coords t) = true ↔ t.val ≤ 8 := by
  have h := cond3_iff t
  show (!(k0_cond3 (grid0.coords t) == 1#1)) = true ↔ _
  rw [Bool.not_eq_true', beq_eq_false_iff_ne, ne_eq, h]; omega
theorem idle4_iff (t : Fin cfg0.N) : cfg0.idle 4 (cfg0.grid.coords t) = true ↔ t.val ≤ 8 := idle3_iff t
theorem idle5_iff (t : Fin cfg0.N) : cfg0.idle 5 (cfg0.grid.coords t) = true ↔ t.val ≠ 8 := by
  have h := cond2_iff t
  show (!(k0_cond2 (grid0.coords t) == 1#1)) = true ↔ _
  rw [Bool.not_eq_true', beq_eq_false_iff_ne, ne_eq, h]

end Cert.KernelIdeal.Phases

end
-- ==== Proof.PI.Data.lean ====
/-
  What the pipeline holds point by point: the logits array, the 128-row pieces of the columns, the blocks the body
  leaves in the results' buffers, and the invariant on the two scratch arrays.
-/
module

public import proofs.«01_k».proof.Proof.PI.Points

@[expose] public section

set_option maxRecDepth 16384

noncomputable section

namespace Cert.KernelIdeal.Phases

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat)

variable {F : FTy → Type} [FloatOps F]

local notation "𝕄" => MT nD τ sig Unit (Elt F) ℕ (UR sig nD τ) ℕ

/-! ## The columns as one array, and a point's piece of it -/

/-- The row of the columns an element lies in, as an index of one column. -/
def rowIx (y : S4096x8.Idx) : S4096x1.Idx
  | 0 => y 0
  | 1 => ⟨0, Nat.one_pos⟩

/-- The columns side by side (the last is repeated in the two places the kernel never writes). -/
def cols (z : Vec F S4096x16 .f32) : Vec F S4096x8 .f32 := fun y =>
  match (y 1).val with
  | 0 => col0 z (rowIx y)
  | 1 => col1 z (rowIx y)
  | 2 => col2 z (rowIx y)
  | 3 => col3 z (rowIx y)
  | 4 => col4 z (rowIx y)
  | _ => col5 z (rowIx y)

/-- Where row `r`, column `k` of the `n`-th piece of 128 rows lies. -/
def pieceIx (n : ℕ) (x : S128x8.Idx) : S4096x8.Idx
  | 0 => ⟨(128 * n + (x 0).val) % 4096, Nat.mod_lt _ (by decide)⟩
  | 1 => ⟨(x 1).val, (x 1).isLt⟩

/-- The `n`-th piece of 128 rows of the columns. -/
def piece (z : Vec F S4096x16 .f32) (n : ℕ) : Vec F S128x8 .f32 := fun x => cols z (pieceIx n x)

/-- An array that holds the columns agrees with them in the first six places of a row. -/
theorem holdsCols_apply {z : Vec F S4096x16 .f32} {v : Vec F S4096x8 .f32} (h : HoldsCols z v) (y : S4096x8.Idx)
    (hy : (y 1).val < 6) : v y = cols z y := by
  have emb : ∀ (k : ℕ) (inb : ∀ a, (![0, k] : Fin 2 → ℕ) a + S4096x1.size a ≤ S4096x8.size a), (y 1).val = k →
      (Rect.unit (s := S4096x8) ![0, k] S4096x1.size inb).emb (rowIx y) = y := by
    intro k inb hk
    funext a; apply Fin.ext; rw [Rect.emb_apply]
    match a with
    | ⟨0, _⟩ => show 0 + 1 * (y 0).val = (y 0).val; omega
    | ⟨1, _⟩ => show k + 1 * 0 = (y 1).val; omega
  obtain ⟨h0, h1, h2, h3, h4, h5⟩ := h
  have hc : (y 1).val = 0 ∨ (y 1).val = 1 ∨ (y 1).val = 2 ∨ (y 1).val = 3 ∨ (y 1).val = 4 ∨ (y 1).val = 5 := by omega
  unfold cols
  rcases hc with hc | hc | hc | hc | hc | hc <;> rw [hc]
  · exact (congrArg v (emb 0 _ hc)).symm.trans (h0 (rowIx y))
  · exact (congrArg v (emb 1 _ hc)).symm.trans (h1 (rowIx y))
  · exact (congrArg v (emb 2 _ hc)).symm.trans (h2 (rowIx y))
  · exact (congrArg v (emb 3 _ hc)).symm.trans (h3 (rowIx y))
  · exact (congrArg v (emb 4 _ hc)).symm.trans (h4 (rowIx y))
  · exact (congrArg v (emb 5 _ hc)).symm.trans (h5 (rowIx y))

/-- The block of combine weights reads only the first six places of its rows. -/
theorem combine_congr (u u' : Vec F S128x8 .f32) (h : ∀ x : S128x8.Idx, (x 1).val < 6 → u x = u' x) :
    k0_pay45 u = k0_pay45 u' := by
  have sl : ∀ (k : ℕ) (hk : k < 6) (hs : S128x8.Slices ![0, k] S128x1),
      extractStridedSlice S128x1 ![0, k] u hs = extractStridedSlice S128x1 ![0, k] u' hs := by
    intro k hk hs
    funext x
    refine h _ ?_
    have hx : (x 1).val < 1 := (x 1).isLt
    show k + (x 1).val < 6
    omega
  unfold k0_pay45
  rw [sl 0 (by decide), sl 1 (by decide), sl 2 (by decide), sl 3 (by decide), sl 4 (by decide), sl 5 (by decide)]

/-- What phase C reads at a point, from an array that holds the columns. -/
theorem combine_rows {z : Vec F S4096x16 .f32} {v : Vec F S4096x8 .f32} (h : HoldsCols z v) (t : Fin cfg0.N) (ht : 8 < t.val)
    (h3 : k0_cond3 (grid0.coords t) = 1#1) :
    k0_pay45 (fun x => v ((rowsC (grid0.coords t) h3).emb x)) = k0_pay45 (piece z (t.val - 9)) := by
  refine combine_congr _ _ fun x hx => ?_
  have e : (rowsC (grid0.coords t) h3).emb x = pieceIx (t.val - 9) x := by
    obtain ⟨o0, o1⟩ := off2_val t ht
    have hN : t.val < 41 := N_0 ▸ t.isLt
    funext a; apply Fin.ext; rw [Rect.emb_apply]
    match a with
    | ⟨0, _⟩ =>
      have hx0 : (x 0).val < 128 := (x 0).isLt
      show k0_off2 (grid0.coords t) 0 + 1 * (x 0).val = (128 * (t.val - 9) + (x 0).val) % 4096
      rw [o0, Nat.mod_eq_of_lt (by omega)]; omega
    | ⟨1, _⟩ =>
      show k0_off2 (grid0.coords t) 1 + 1 * (x 1).val = (x 1).val
      rw [o1]; omega
  show v _ = cols z _
  rw [e]
  exact holdsCols_apply h _ hx

/-! ## The logits array -/

variable (m : (ℓ : Loc nD τ sig) → Buf (Elt F) ℓ)

/-- The point that computes row `r` of the logits. -/
def rowPoint (r : Fin 4096) : Fin cfg0.N := ⟨r.val / 512, by have h := r.isLt; show r.val / 512 < grid0.N; rw [N_0]; omega⟩

/-- The place of an element of the logits array in its block. -/
def blockIx (y : S4096x16.Idx) : S512x16.Idx
  | 0 => ⟨(y 0).val % 512, Nat.mod_lt _ (by decide)⟩
  | 1 => ⟨(y 1).val, (y 1).isLt⟩

/-- The logits of all tokens: each block of 512 rows as its point computes it. -/
def logits (c : Dev nD) : Vec F S4096x16 .f32 := fun y =>
  k0_pay1 (iblk m c 0 (rowPoint (y 0))) (iblk m c 1 (rowPoint (y 0))) (iblk m c 2 (rowPoint (y 0))) (blockIx y)

/-- After a point of phase A the rows up to the point's last hold the logits. -/
theorem logits_step (c : Dev nD) (t : Fin cfg0.N) (ht : t.val < 8) (h1 : k0_cond1 (grid0.coords t) = 1#1)
    (z z' : Vec F S4096x16 .f32) (hz : ∀ y : S4096x16.Idx, (y 0).val < 512 * t.val → z y = logits m c y)
    (hin : ∀ x, z' ((rowsA (grid0.coords t) h1).emb x) = k0_pay1 (iblk m c 0 t) (iblk m c 1 t) (iblk m c 2 t) x)
    (hout : ∀ y, y ∉ (rowsA (grid0.coords t) h1).set → z' y = z y) (y : S4096x16.Idx) (hy : (y 0).val < 512 * (t.val + 1)) :
    z' y = logits m c y := by
  obtain ⟨o0, o1⟩ := off1_val t ht
  by_cases hlt : (y 0).val < 512 * t.val
  · rw [hout y ?_, hz y hlt]
    intro hm
    have h0 := (Rect.mem_set_unit.mp hm) 0
    rw [o0] at h0
    omega
  · have ep : rowPoint (y 0) = t := Fin.ext (by show (y 0).val / 512 = t.val; omega)
    have e : (rowsA (grid0.coords t) h1).emb (blockIx y) = y := by
      funext a; apply Fin.ext; rw [Rect.emb_apply]
      match a with
      | ⟨0, _⟩ =>
        show k0_off1 (grid0.coords t) 0 + 1 * ((y 0).val % 512) = (y 0).val
        rw [o0]; omega
      | ⟨1, _⟩ =>
        show k0_off1 (grid0.coords t) 1 + 1 * (y 1).val = (y 1).val
        rw [o1]; omega
    unfold logits
    rw [ep, ← hin, e]

/-! ## The proof data -/

/-- The scratch arrays between points: the first holds the logits computed so far; the second, once the gating phase
    has run, the columns. -/
def inv (c : Dev nD) (n : ℕ) : sProp 𝕄 :=
  iprop((∃ z, ⌜∀ y : S4096x16.Idx, (y 0).val < 512 * n → z y = logits m c y⌝ ∗ owns c (Memref.whole cc0_scratch0) fullShare z)
    ∗ (∃ v, ⌜8 < n → HoldsCols (logits m c) v⌝ ∗ owns c (Memref.whole cc0_scratch1) fullShare v)
    ∗ ∃ r, prngReg c r)

/-- The arrays as the pipeline finds them; after the body each operand's buffer at its block, the big results' at the
    blocks of phase C, the loss at its value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay45 (piece (logits m c) (t.val - 9))
    | ⟨4, _⟩ => k0_pay5 (k0_pay46 (piece (logits m c) (t.val - 9)))
    | ⟨5, _⟩ => laux (logits m c)
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay45 (piece (logits m c) (t.val - 9)) := by
  dsimp only [dats]
theorem after_4 (c : Dev nD) (t : Fin cfg0.N) : (dats m 0 c).after 4 t = k0_pay5 (k0_pay46 (piece (logits m c) (t.val - 9))) := by
  dsimp only [dats]
theorem after_5 (c : Dev nD) (t : Fin cfg0.N) : (dats m 0 c).after 5 t = laux (logits m c) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- After the gating phase the loss's buffer keeps the loss to the last point. -/
theorem before_5 (c : Dev nD) (d) : ∀ (n : ℕ) (hn : n + 9 < cfg0.N), (dats m 0 c).before 5 ⟨n + 9, hn⟩ d = laux (logits m c)
  | 0, hn => by
    have h8 : 8 < cfg0.N := by show 8 < grid0.N; rw [N_0]; decide
    rw [Pipeline.Dat.before_of_pos _ _ _ (by show 0 + 9 ≠ 0; omega) rfl,
      if_neg (by rw [flush5_iff]; show ¬ (0 + 9 - 1 = 40); omega)]
    have hi : cfg0.idle 5 (cfg0.grid.coords ⟨8, h8⟩) = false := by
      rw [← Bool.not_eq_true, idle5_iff]; show ¬ (8 ≠ 8); omega
    show (dats m 0 c).left 5 ⟨8, h8⟩ d = _
    unfold Pipeline.Dat.left
    rw [hi]
    exact after_5 m c _
  | n + 1, hn => by
    have hn' : n + 9 < cfg0.N := by omega
    rw [Pipeline.Dat.before_of_pos _ _ _ (by show n + 1 + 9 ≠ 0; omega) rfl,
      if_neg (by rw [flush5_iff]; show ¬ (n + 1 + 9 - 1 = 40); have : n + 1 + 9 < 41 := N_0 ▸ hn; omega)]
    have hi : cfg0.idle 5 (cfg0.grid.coords ⟨n + 9, hn'⟩) = true := by
      rw [idle5_iff]; show n + 9 ≠ 8; omega
    show (dats m 0 c).left 5 ⟨n + 9, hn'⟩ d = _
    unfold Pipeline.Dat.left
    rw [hi]
    exact before_5 c d n _

end Cert.KernelIdeal.Phases

end
-- ==== Proof.PI.Body.lean ====
/-
  The body at every grid point: handed the windows' buffers as the pipeline leaves them and the invariant at the point,
  it returns the buffers at what `dats` says and the invariant at the next point.
-/
module

public import proofs.«01_k».proof.Proof.PI.Data

@[expose] public section

set_option maxRecDepth 16384

noncomputable section

namespace Cert.KernelIdeal.Phases

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ)

/-- The buffer window `w` uses at point `t`, held whole at `X`. -/
abbrev holds (c : Dev nD) (w : Fin cfg0.W) (t : Fin cfg0.N) (X : (cfg0.win w).block.Idx → Elt F (cfg0.win w).elt) : sProp 𝕄 :=
  owns c ((cfg0.win w).stage (cfg0.slots t w)) fullShare X

/-- The same, at what the point finds there. -/
abbrev found (c : Dev nD) (w : Fin cfg0.W) (t : Fin cfg0.N) : sProp 𝕄 :=
  iprop(∃ d, holds c w t ((dats m 0 c).before w t d))

/-- Where the body does not skip the window, it leaves the window's block. -/
theorem leaves_live (c : Dev nD) (w : Fin cfg0.W) (t : Fin cfg0.N) (hi : cfg0.idle w (cfg0.grid.coords t) = false) :
    (dats m 0 c).leavesExact w t = holds c w t ((dats m 0 c).after w t) := by
  unfold Pipeline.Dat.leavesExact; rw [hi]

/-- Where the window is written back though the body skips it, the block must be there. -/
theorem leaves_flushed (c : Dev nD) (w : Fin cfg0.W) (t : Fin cfg0.N) (hf : (cfg0.win w).flush t = true) :
    (dats m 0 c).leavesExact w t = holds c w t ((dats m 0 c).after w t) := by
  unfold Pipeline.Dat.leavesExact; rw [hf]; cases cfg0.idle w (cfg0.grid.coords t) <;> rfl

theorem idle0 (t : Fin cfg0.N) : cfg0.idle 0 (cfg0.grid.coords t) = false := rfl
theorem idle1 (t : Fin cfg0.N) : cfg0.idle 1 (cfg0.grid.coords t) = false := rfl
theorem idle2 (t : Fin cfg0.N) : cfg0.idle 2 (cfg0.grid.coords t) = false := rfl

/-- The first two operands' and the third's buffers come back as they were found. -/
theorem kept_in (c : Dev nD) (t : Fin cfg0.N) :
    (dats m 0 c).leavesExact 0 t = holds c 0 t (iblk m c 0 t) ∧ (dats m 0 c).leavesExact 1 t = holds c 1 t (iblk m c 1 t)
      ∧ (dats m 0 c).leavesExact 2 t = holds c 2 t (iblk m c 2 t) :=
  ⟨by rw [leaves_live m c 0 t (idle0 t), after_0], by rw [leaves_live m c 1 t (idle1 t), after_1],
    by rw [leaves_live m c 2 t (idle2 t), after_2]⟩

/-- What a point of the grid finds in the buffers: the operands' blocks, and whatever the results' buffers hold. -/
theorem found_in (c : Dev nD) (t : Fin cfg0.N) :
    (found m c 0 t ⊢ holds c 0 t (iblk m c 0 t)) ∧ (found m c 1 t ⊢ holds c 1 t (iblk m c 1 t))
      ∧ (found m c 2 t ⊢ holds c 2 t (iblk m c 2 t)) := by
  refine ⟨?_, ?_, ?_⟩
  · iintro ⟨%d, H⟩; rw [before_0]; iexact H
  · iintro ⟨%d, H⟩; rw [before_1]; iexact H
  · iintro ⟨%d, H⟩; rw [before_2]; iexact H

/-- The buffers a point is handed. -/
abbrev handed (c : Dev nD) (t : Fin cfg0.N) : sProp 𝕄 :=
  iprop(found m c 0 t ∗ found m c 1 t ∗ found m c 2 t ∗ found m c 3 t ∗ found m c 4 t ∗ found m c 5 t)
/-- The buffers it gives back. -/
abbrev given (c : Dev nD) (t : Fin cfg0.N) : sProp 𝕄 :=
  iprop((dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

/-- A results' window that the body skips and the pipeline does not write back passes through. -/
theorem passes (c : Dev nD) (w : Fin cfg0.W) (t : Fin cfg0.N) (hi : cfg0.idle w (cfg0.grid.coords t) = true)
    (hf : (cfg0.win w).flush t = false) : found m c w t ⊢ (dats m 0 c).leavesExact w t := by
  rw [Pipeline.Dat.leavesExact_idle _ _ _ hi hf]

theorem false_of_not {b : Bool} (h : ¬ b = true) : b = false := by cases b <;> simp_all

set_option maxHeartbeats 2000000 in
/-- A point of phase A. -/
theorem sound_A (c : Dev nD) (t : Fin cfg0.N) (ht : t.val < 8) :
    iprop(inv m c t.val ∗ (dats m 0 c).owesAt () t.castSucc ∗ handed m c t)
      ⊢ wp frame (wpE (defs₀ (F := F)) Variants.none c none) Set.univ (bodyAt0 t)
          fun _ => iprop(inv m c (t.val + 1) ∗ (dats m 0 c).owesAt () t.castSucc ∗ given m c t) := by
  have h1 := (cond1_iff t).mpr ht
  have h2 : ¬ k0_cond2 (grid0.coords t) = 1#1 := fun h => by have := (cond2_iff t).mp h; omega
  have h3 : ¬ k0_cond3 (grid0.coords t) = 1#1 := fun h => by have := (cond3_iff t).mp h; omega
  unfold inv handed given
  rw [(kept_in m c t).1, (kept_in m c t).2.1, (kept_in m c t).2.2]
  iintro ⟨⟨⟨%z, %hz, Hz⟩, Hv, Hr⟩, Ho, H0, H1, H2, H3, H4, H5⟩
  ihave H0 := (found_in m c t).1 $$ H0
  ihave H1 := (found_in m c t).2.1 $$ H1
  ihave H2 := (found_in m c t).2.2 $$ H2
  iapply (phaseA c (grid0.coords t) _ _ _ _ _ _ _ _ _ _ _ _ _ _ _ _ h1 h2 h3 (iblk m c 0 t) (iblk m c 1 t) (iblk m c 2 t) z)
  isplitl [H0]; · iexact H0
  isplitl [H1]; · iexact H1
  isplitl [H2]; · iexact H2
  isplitl [Hz]; · iexact Hz
  iintro ⟨H0, H1, H2, ⟨%z', %hz', Hz⟩⟩
  isplitl [Hz Hv Hr]
  · isplitl [Hz]
    · iexists z'; isplitr
      · ipureintro; exact logits_step m c t ht h1 z z' hz hz'.1 hz'.2
      · iexact Hz
    isplitl [Hv]
    · icases Hv with ⟨%v, %hv, Hv⟩
      iexists v; isplitr
      · ipureintro; intro h; omega
      · iexact Hv
    iexact Hr
  isplitl [Ho]; · iexact Ho
  isplitl [H0]; · iexact H0
  isplitl [H1]; · iexact H1
  isplitl [H2]; · iexact H2
  isplitl [H3]
  · iapply (passes m c 3 t ((idle3_iff t).mpr (by omega)) (false_of_not fun h => by have := (flush3_iff t).mp h; omega)); iexact H3
  isplitl [H4]
  · iapply (passes m c 4 t ((idle4_iff t).mpr (by omega)) (false_of_not fun h => by have := (flush4_iff t).mp h; omega)); iexact H4
  iapply (passes m c 5 t ((idle5_iff t).mpr (by omega)) (false_of_not fun h => by have := (flush5_iff t).mp h; omega)); iexact H5

set_option maxHeartbeats 2000000 in
/-- The point of phase B. -/
theorem sound_B (c : Dev nD) (t : Fin cfg0.N) (ht : t.val = 8) :
    iprop(inv m c t.val ∗ (dats m 0 c).owesAt () t.castSucc ∗ handed m c t)
      ⊢ wp frame (wpE (defs₀ (F := F)) Variants.none c none) Set.univ (bodyAt0 t)
          fun _ => iprop(inv m c (t.val + 1) ∗ (dats m 0 c).owesAt () t.castSucc ∗ given m c t) := by
  have h1 : ¬ k0_cond1 (grid0.coords t) = 1#1 := fun h => by have := (cond1_iff t).mp h; omega
  have h2 := (cond2_iff t).mpr ht
  have h3 : ¬ k0_cond3 (grid0.coords t) = 1#1 := fun h => by have := (cond3_iff t).mp h; omega
  unfold inv handed given
  rw [(kept_in m c t).1, (kept_in m c t).2.1, (kept_in m c t).2.2,
    leaves_live m c 5 t (false_of_not fun h => (idle5_iff t).mp h ht), after_5]
  iintro ⟨⟨⟨%z, %hz, Hz⟩, Hv, Hr⟩, Ho, H0, H1, H2, H3, H4, H5⟩
  have ez : z = logits m c := funext fun y => hz y (by have h : (y 0).val < 4096 := (y 0).isLt; omega)
  subst ez
  ihave H0 := (found_in m c t).1 $$ H0
  ihave H1 := (found_in m c t).2.1 $$ H1
  ihave H2 := (found_in m c t).2.2 $$ H2
  iapply (phaseB c (grid0.coords t) _ _ _ _ _ _ _ _ _ _ _ _ _ _ _ _ h1 h2 h3 (logits m c))
  isplitl [H5]
  · icases H5 with ⟨%d, H5⟩; iexists _; iexact H5
  isplitl [Hz]; · iexact Hz
  isplitl [Hv]
  · icases Hv with ⟨%v, -, Hv⟩; iexists v; iexact Hv
  iintro ⟨H5, Hz, ⟨%v, %hv, Hv⟩⟩
  isplitl [Hz Hv Hr]
  · isplitl [Hz]
    · iexists (logits m c); isplitr
      · ipureintro; intro y _; rfl
      · iexact Hz
    isplitl [Hv]
    · iexists v; isplitr
      · ipureintro; intro _; exact hv
      · iexact Hv
    iexact Hr
  isplitl [Ho]; · iexact Ho
  isplitl [H0]; · iexact H0
  isplitl [H1]; · iexact H1
  isplitl [H2]; · iexact H2
  isplitl [H3]
  · iapply (passes m c 3 t ((idle3_iff t).mpr (by omega)) (false_of_not fun h => by have := (flush3_iff t).mp h; omega)); iexact H3
  isplitl [H4]
  · iapply (passes m c 4 t ((idle4_iff t).mpr (by omega)) (false_of_not fun h => by have := (flush4_iff t).mp h; omega)); iexact H4
  iexact H5

/-- At a point of phase C the loss's buffer holds the loss, and keeps it. -/
theorem loss_passes (c : Dev nD) (t : Fin cfg0.N) (ht : 8 < t.val) : found m c 5 t ⊢ (dats m 0 c).leavesExact 5 t := by
  by_cases h : t.val = 40
  · rw [leaves_flushed m c 5 t ((flush5_iff t).mpr h), after_5]
    iintro ⟨%d, H⟩
    have e : t = ⟨(t.val - 9) + 9, by have := t.isLt; omega⟩ := Fin.ext (by show t.val = t.val - 9 + 9; omega)
    have hb : (dats m 0 c).before 5 t d = laux (logits m c) :=
      (congrArg (fun u => (dats m 0 c).before 5 u d) e).trans (before_5 m c d (t.val - 9) _)
    rw [hb]; iexact H
  · exact passes m c 5 t ((idle5_iff t).mpr (by omega)) (false_of_not fun hf => h ((flush5_iff t).mp hf))

set_option maxHeartbeats 2000000 in
/-- A point of phase C. -/
theorem sound_C (c : Dev nD) (t : Fin cfg0.N) (ht : 8 < t.val) :
    iprop(inv m c t.val ∗ (dats m 0 c).owesAt () t.castSucc ∗ handed m c t)
      ⊢ wp frame (wpE (defs₀ (F := F)) Variants.none c none) Set.univ (bodyAt0 t)
          fun _ => iprop(inv m c (t.val + 1) ∗ (dats m 0 c).owesAt () t.castSucc ∗ given m c t) := by
  have h1 : ¬ k0_cond1 (grid0.coords t) = 1#1 := fun h => by have := (cond1_iff t).mp h; omega
  have h2 : ¬ k0_cond2 (grid0.coords t) = 1#1 := fun h => by have := (cond2_iff t).mp h; omega
  have h3 := (cond3_iff t).mpr ht
  unfold inv handed given
  rw [(kept_in m c t).1, (kept_in m c t).2.1, (kept_in m c t).2.2,
    leaves_live m c 3 t (false_of_not fun h => by have := (idle3_iff t).mp h; omega), after_3,
    leaves_live m c 4 t (false_of_not fun h => by have := (idle4_iff t).mp h; omega), after_4]
  iintro ⟨⟨Hz, ⟨%v, %hv, Hv⟩, Hr⟩, Ho, H0, H1, H2, H3, H4, H5⟩
  have e := combine_rows (hv ht) t ht h3
  have e' : k0_pay46 (fun x => v ((rowsC (grid0.coords t) h3).emb x)) = k0_pay46 (piece (logits m c) (t.val - 9)) := by
    unfold k0_pay46; rw [e]
  ihave H0 := (found_in m c t).1 $$ H0
  ihave H1 := (found_in m c t).2.1 $$ H1
  ihave H2 := (found_in m c t).2.2 $$ H2
  iapply (phaseC c (grid0.coords t) _ _ _ _ _ _ _ _ _ _ _ _ _ _ _ _ h1 h2 h3 v)
  rw [e, e']
  isplitl [H3]
  · icases H3 with ⟨%d, H3⟩; iexists _; iexact H3
  isplitl [H4]
  · icases H4 with ⟨%d, H4⟩; iexists _; iexact H4
  isplitl [Hv]; · iexact Hv
  iintro ⟨H3, H4, Hv⟩
  isplitl [Hz Hv Hr]
  · isplitl [Hz]
    · icases Hz with ⟨%z, %hz, Hz⟩
      iexists z; isplitr
      · ipureintro; intro y hy
        have h : (y 0).val < 4096 := (y 0).isLt
        exact hz y (by omega)
      · iexact Hz
    isplitl [Hv]
    · iexists v; isplitr
      · ipureintro; intro _; exact hv ht
      · iexact Hv
    iexact Hr
  isplitl [Ho]; · iexact Ho
  isplitl [H0]; · iexact H0
  isplitl [H1]; · iexact H1
  isplitl [H2]; · iexact H2
  isplitl [H3]; · iexact H3
  isplitl [H4]; · iexact H4
  iapply (loss_passes m c t ht); iexact H5

/-- Every point. -/
theorem sound_point (c : Dev nD) (t : Fin cfg0.N) :
    iprop(inv m c t.val ∗ (dats m 0 c).owesAt () t.castSucc ∗ handed m c t)
      ⊢ wp frame (wpE (defs₀ (F := F)) Variants.none c none) Set.univ (bodyAt0 t)
          fun _ => iprop(inv m c (t.val + 1) ∗ (dats m 0 c).owesAt () t.castSucc ∗ given m c t) := by
  rcases Nat.lt_trichotomy t.val 8 with h | h | h
  · exact sound_A m c t h
  · exact sound_B m c t h
  · exact sound_C m c t h

/-- The pipeline calls the body on the point's buffers. -/
theorem row (t : Fin cfg0.N) : defs₀ (F := F) .tc cfg0.body (cfg0.bodyArgs t (cfg0.slots t)) = bodyAt0 t := by
  unfold defs₀; rw [Defs.onTc_tc]

/-- The body meets the pipeline's obligation. -/
theorem body_obligation (c : Dev nD) : BodyObligation (dats m 0 c) (defs₀ (F := F)) Variants.none () Set.univ := fun t => by
  rw [bigSep_W0, bigSep_W0, row]
  exact triple_restated (sound_point m c t) rfl .rfl fun _ => .rfl

end Cert.KernelIdeal.Phases

end
-- ==== Proof.PI.Run.lean ====
/-
  The run of the program: it ends with the pipeline's arrays at what the points' blocks make of them, the other buffers
  at what the host lines after the region make of those, the arguments unchanged and every semaphore counter at zero.
-/
module

public import proofs.«01_k».proof.Proof.PI.Body
public import Idealize.ShloMosaic.Lib.Pipeline.Quiescent

@[expose] public section

set_option maxRecDepth 16384

noncomputable section

namespace Cert.KernelIdeal.Phases

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch hands the kernel is the invariant before the first point. -/
theorem enters (c : Dev nD) : Pipeline.ΦA (U := UR sig nD τ) (Val := Elt F) spec0 c ⊢ (dats m 0 c).Φ 0 := by
  show Pipeline.ΦA (U := UR sig nD τ) (Val := Elt F) spec0 c ⊢ inv m c 0
  unfold Pipeline.ΦA inv
  rw [scopedRest0_eq]
  iintro ⟨⟨⟨%f, H0⟩, ⟨%g, H1⟩⟩, Hr⟩
  isplitl [H0]
  · iexists f; isplitr
    · ipureintro; intro y hy; omega
    · rw [owns_whole]; iexact H0
  isplitl [H1]
  · iexists g; isplitr
    · ipureintro; intro h; omega
    · rw [owns_whole]; iexact H1
  iexact Hr

/-- The invariant after the last point gives back what the launch handed over. -/
theorem exits (c : Dev nD) : (dats m 0 c).Φ (Fin.last cfg0.N) ⊢ Pipeline.ΦA (U := UR sig nD τ) (Val := Elt F) spec0 c := by
  show inv m c cfg0.N ⊢ Pipeline.ΦA (U := UR sig nD τ) (Val := Elt F) spec0 c
  unfold Pipeline.ΦA inv
  rw [scopedRest0_eq]
  iintro ⟨⟨%z, -, H0⟩, ⟨%v, -, H1⟩, Hr⟩
  isplitl [H0 H1]
  · isplitl [H0]
    · iexists z; rw [← owns_whole]; iexact H0
    · iexists v; rw [← owns_whole]; iexact H1
  iexact Hr

/-- The buffers after the host lines that follow the region. -/
abbrev exitAt : (c : Dev nD) → (b : Ref sig .tc) → Buf (Elt F) ((c : Thread nD τ).loc b) :=
  Pipeline.afterTail₀ cfgs (dats m) 0 (V0 m) [hostOps1]

set_option maxHeartbeats 2000000 in
/-- The run. -/
theorem run : θ_run defs (onTc (τ := τ) (main (F := F))) (s₀ m ρ)
    (fun r => Pipeline.FramePost cfgs (dats m) 0 (exitAt m) r ∧ r.2.sem = fun _ => 0) :=
  Pipeline.θ_run_frame_around_track cfgs (dats m) 0 launch0 defs₀ Variants.none m ρ main
    (fun c => (body_obligation m c).loose)
    (fun c w => by unfold Pipeline.Dat.share; split <;> rfl) (fun _ _ => rfl) (V0 m) [hostOps1] sfx_sub sfx_fresh sfx_keeps
    (hmain m Variants.none) (A_eq m) (enters m) (exits m) (Q' := _)

/-- The frame: the arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_with_sems (frame_of m ρ (dats m) (A_eq m)) (run m ρ)

end Cert.KernelIdeal.Phases

end
-- ==== Proof.Ref.Run.lean ====
/- The run of the reference program: its host operations as a list, each stage's value as a pure term of the
   arguments, and the theorem `run`: the program ends with each result at that term and its arguments unchanged. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 175 (window `main_part0`). -/
abbrev ops_part0_0 : List (HloOp τ sig (Elt F)) :=
  [ unary main_arg1 main_v0 ((transpose S4096x4 [1, 0] · transposes_S4x4096_S4096x4_1_0) : (⟨S4x4096, .f32⟩ : BufTy).Contents (Elt F) → (⟨S4096x4, .f32⟩ : BufTy).Contents (Elt F)),
    binary main_arg0 main_v0 main_v1 ((fun l r => Host.dotGeneral dot_S4096x4096_S4096x4_S4096x4_1_0_0_1_n_n none l r) : (⟨S4096x4096, .f32⟩ : BufTy).Contents (Elt F) → (⟨S4096x4, .f32⟩ : BufTy).Contents (Elt F) → (⟨S4096x4, .f32⟩ : BufTy).Contents (Elt F)),
    TRef.binary (TRef.of (T := ⟨S16x4, .f32⟩) main_arg2) (TRef.of (T := ⟨S16x4, .f32⟩) main_arg2) (TRef.of (T := ⟨S16x4, .f32⟩) main_call0_v0) mulf,
    TRef.nullary (TRef.of (T := ⟨S_, .f32⟩) main_call0_cst) (constant S_ .f32 0x00000000#32),
    TRef.binary (TRef.of (T := ⟨S16x4, .f32⟩) main_call0_v0) (TRef.of (T := ⟨S_, .f32⟩) main_call0_cst) (TRef.of (T := ⟨S16, .f32⟩) main_call0_v1) (fun x v => Host.reduceAdd x v reducesTo_S16x4_S16_d1 h_S_),
    TRef.unary (TRef.of (T := ⟨S16, .f32⟩) main_call0_v1) (TRef.of (T := ⟨S16x1, .f32⟩) main_call0_v2) (broadcastInDim S16x1 ![0] bcast_S16_S16x1_0),
    TRef.unary (TRef.of (T := ⟨S16x1, .f32⟩) main_call0_v2) (TRef.of (T := ⟨S16x1, .f32⟩) main_v2) Host.sqrt,
    nullary main_cst (constant S_ .f32 0x3FC00000#32),
    unary main_cst main_v3 (broadcastInDim S16x1 ![] bcast_S_S16x1 : (⟨S_, .f32⟩ : BufTy).Contents (Elt F) → (⟨S16x1, .f32⟩ : BufTy).Contents (Elt F)),
    binary main_v3 main_v2 main_v4 (Host.divf : (⟨S16x1, .f32⟩ : BufTy).Contents (Elt F) → (⟨S16x1, .f32⟩ : BufTy).Contents (Elt F) → (⟨S16x1, .f32⟩ : BufTy).Contents (Elt F)),
    unary main_v4 main_v5 (broadcastInDim S16x4 ![0, 1] bcast_S16x1_S16x4_0_1 : (⟨S16x1, .f32⟩ : BufTy).Contents (Elt F) → (⟨S16x4, .f32⟩ : BufTy).Contents (Elt F)),
    binary main_arg2 main_v5 main_v6 (mulf : (⟨S16x4, .f32⟩ : BufTy).Contents (Elt F) → (⟨S16x4, .f32⟩ : BufTy).Contents (Elt F) → (⟨S16x4, .f32⟩ : BufTy).Contents (Elt F)),
    TRef.binary (TRef.of (T := ⟨S16x4, .f32⟩) main_v6) (TRef.of (T := ⟨S16x4, .f32⟩) main_v6) (TRef.of (T := ⟨S16x4, .f32⟩) main_call1_v0) mulf,
    TRef.nullary (TRef.of (T := ⟨S_, .f32⟩) main_call1_cst) (constant S_ .f32 0x00000000#32),
    TRef.binary (TRef.of (T := ⟨S16x4, .f32⟩) main_call1_v0) (TRef.of (T := ⟨S_, .f32⟩) main_call1_cst) (TRef.of (T := ⟨S16, .f32⟩) main_call1_v1) (fun x v => Host.reduceAdd x v reducesTo_S16x4_S16_d1 h_S_),
    TRef.unary (TRef.of (T := ⟨S16, .f32⟩) main_call1_v1) (TRef.of (T := ⟨S16x1, .f32⟩) main_call1_v2) (broadcastInDim S16x1 ![0] bcast_S16_S16x1_0),
    TRef.unary (TRef.of (T := ⟨S16x1, .f32⟩) main_call1_v2) (TRef.of (T := ⟨S16x1, .f32⟩) main_v7) Host.sqrt,
    nullary main_cst_0 (constant S_ .f32 0x38D1B717#32),
    unary main_cst_0 main_v8 (broadcastInDim S16x1 ![] bcast_S_S16x1 : (⟨S_, .f32⟩ : BufTy).Contents (Elt F) → (⟨S16x1, .f32⟩ : BufTy).Contents (Elt F)),
    binary main_v7 main_v8 main_v9 (maximumf : (⟨S16x1, .f32⟩ : BufTy).Contents (Elt F) → (⟨S16x1, .f32⟩ : BufTy).Contents (Elt F) → (⟨S16x1, .f32⟩ : BufTy).Contents (Elt F)),
    unary main_v9 main_v10 (broadcastInDim S16x4 ![0, 1] bcast_S16x1_S16x4_0_1 : (⟨S16x1, .f32⟩ : BufTy).Contents (Elt F) → (⟨S16x4, .f32⟩ : BufTy).Contents (Elt F)),
    binary main_v6 main_v10 main_v11 (Host.divf : (⟨S16x4, .f32⟩ : BufTy).Contents (Elt F) → (⟨S16x4, .f32⟩ : BufTy).Contents (Elt F) → (⟨S16x4, .f32⟩ : BufTy).Contents (Elt F)),
    unary main_v11 main_v12 ((transpose S4x16 [1, 0] · transposes_S16x4_S4x16_1_0) : (⟨S16x4, .f32⟩ : BufTy).Contents (Elt F) → (⟨S4x16, .f32⟩ : BufTy).Contents (Elt F)),
    binary main_v1 main_v12 main_v13 ((fun l r => Host.dotGeneral dot_S4096x4_S4x16_S4096x16_1_0_0_1_n_n none l r) : (⟨S4096x4, .f32⟩ : BufTy).Contents (Elt F) → (⟨S4x16, .f32⟩ : BufTy).Contents (Elt F) → (⟨S4096x16, .f32⟩ : BufTy).Contents (Elt F)),
    unary main_v13 main_v14 (Host.absf : (⟨S4096x16, .f32⟩ : BufTy).Contents (Elt F) → (⟨S4096x16, .f32⟩ : BufTy).Contents (Elt F)),
    nullary main_cst_1 (constant S_ .f32 0x7F800000#32),
    unary main_cst_1 main_v15 (broadcastInDim S4096x16 ![] bcast_S_S4096x16 : (⟨S_, .f32⟩ : BufTy).Contents (Elt F) → (⟨S4096x16, .f32⟩ : BufTy).Contents (Elt F)),
    binary main_v14 main_v15 main_v16 (cmpf .olt : (⟨S4096x16, .f32⟩ : BufTy).Contents (Elt F) → (⟨S4096x16, .f32⟩ : BufTy).Contents (Elt F) → (⟨S4096x16, .i1⟩ : BufTy).Contents (Elt F)),
    nullary main_cst_2 (constant S_ .f32 0x7F800000#32),
    TRef.unary (TRef.of (T := ⟨S_, .f32⟩) main_cst_2) (TRef.of (T := ⟨S_, .f32⟩) main_call2_v0) id ]

/-- @main's operations 31 … 60 of 175 (window `main_part0`). -/
abbrev ops_part0_1 : List (HloOp τ sig (Elt F)) :=
  [ TRef.unary (TRef.of (T := ⟨S_, .f32⟩) main_call2_v0) (TRef.of (T := ⟨S4096x16, .f32⟩) main_call2_v1) (broadcastInDim S4096x16 ![] bcast_S_S4096x16),
    TRef.ternary (TRef.of (T := ⟨S4096x16, .i1⟩) main_v16) (TRef.of (T := ⟨S4096x16, .f32⟩) main_v13) (TRef.of (T := ⟨S4096x16, .f32⟩) main_call2_v1) (TRef.of (T := ⟨S4096x16, .f32⟩) main_v17) select,
    nullary main_cst_3 (constant S_ .f32 0x7F800000#32),
    binary main_v17 main_cst_3 main_v18 ((fun x v => Host.reduce FloatOps.minimumf x v reducesTo_S4096x16_S_d0_1 h_S_) : (⟨S4096x16, .f32⟩ : BufTy).Contents (Elt F) → (⟨S_, .f32⟩ : BufTy).Contents (Elt F) → (⟨S_, .f32⟩ : BufTy).Contents (Elt F)),
    TRef.unary (TRef.of (T := ⟨S_, .f32⟩) main_v18) (TRef.of (T := ⟨S4096x16, .f32⟩) main_call3_v0) (broadcastInDim S4096x16 ![] bcast_S_S4096x16),
    TRef.ternary (TRef.of (T := ⟨S4096x16, .i1⟩) main_v16) (TRef.of (T := ⟨S4096x16, .f32⟩) main_v13) (TRef.of (T := ⟨S4096x16, .f32⟩) main_call3_v0) (TRef.of (T := ⟨S4096x16, .f32⟩) main_v19) select,
    nullary main_cst_4 (constant S_ .f32 0xFF800000#32),
    binary main_v19 main_cst_4 main_v20 ((fun x v => Host.reduce FloatOps.maximumf x v reducesTo_S4096x16_S4096_d1 h_S_) : (⟨S4096x16, .f32⟩ : BufTy).Contents (Elt F) → (⟨S_, .f32⟩ : BufTy).Contents (Elt F) → (⟨S4096, .f32⟩ : BufTy).Contents (Elt F)),
    nullary main_cst_5 (constant S_ .f32 0xFF800000#32),
    unary main_cst_5 main_v21 (broadcastInDim S4096 ![] bcast_S_S4096 : (⟨S_, .f32⟩ : BufTy).Contents (Elt F) → (⟨S4096, .f32⟩ : BufTy).Contents (Elt F)),
    binary main_v21 main_v20 main_v22 (maximumf : (⟨S4096, .f32⟩ : BufTy).Contents (Elt F) → (⟨S4096, .f32⟩ : BufTy).Contents (Elt F) → (⟨S4096, .f32⟩ : BufTy).Contents (Elt F)),
    unary main_v22 main_v23 (broadcastInDim S4096x1 ![0] bcast_S4096_S4096x1_0 : (⟨S4096, .f32⟩ : BufTy).Contents (Elt F) → (⟨S4096x1, .f32⟩ : BufTy).Contents (Elt F)),
    unary main_v23 main_v24 (broadcastInDim S4096x16 ![0, 1] bcast_S4096x1_S4096x16_0_1 : (⟨S4096x1, .f32⟩ : BufTy).Contents (Elt F) → (⟨S4096x16, .f32⟩ : BufTy).Contents (Elt F)),
    binary main_v19 main_v24 main_v25 (subf : (⟨S4096x16, .f32⟩ : BufTy).Contents (Elt F) → (⟨S4096x16, .f32⟩ : BufTy).Contents (Elt F) → (⟨S4096x16, .f32⟩ : BufTy).Contents (Elt F)),
    unary main_v25 main_v26 (Host.exp : (⟨S4096x16, .f32⟩ : BufTy).Contents (Elt F) → (⟨S4096x16, .f32⟩ : BufTy).Contents (Elt F)),
    nullary main_cst_6 (constant S_ .f32 0x00000000#32),
    binary main_v26 main_cst_6 main_v27 ((fun x v => Host.reduceAdd x v reducesTo_S4096x16_S4096_d1 h_S_) : (⟨S4096x16, .f32⟩ : BufTy).Contents (Elt F) → (⟨S_, .f32⟩ : BufTy).Contents (Elt F) → (⟨S4096, .f32⟩ : BufTy).Contents (Elt F)),
    unary main_v27 main_v28 (broadcastInDim S4096x1 ![0] bcast_S4096_S4096x1_0 : (⟨S4096, .f32⟩ : BufTy).Contents (Elt F) → (⟨S4096x1, .f32⟩ : BufTy).Contents (Elt F)),
    unary main_v28 main_v29 (broadcastInDim S4096x16 ![0, 1] bcast_S4096x1_S4096x16_0_1 : (⟨S4096x1, .f32⟩ : BufTy).Contents (Elt F) → (⟨S4096x16, .f32⟩ : BufTy).Contents (Elt F)),
    binary main_v26 main_v29 main_v30 (Host.divf : (⟨S4096x16, .f32⟩ : BufTy).Contents (Elt F) → (⟨S4096x16, .f32⟩ : BufTy).Contents (Elt F) → (⟨S4096x16, .f32⟩ : BufTy).Contents (Elt F)),
    TRef.nullary (TRef.of (T := ⟨S4096x16, .i32⟩) main_call4_v0) (iotaInDim S4096x16 32 1),
    TRef.nullary (TRef.of (T := ⟨S_, .f32⟩) main_call4_cst) (constant S_ .f32 0xFF800000#32),
    TRef.nullary (TRef.of (T := ⟨S_, .i32⟩) main_call4_c) (constantI S_ 32 0#32),
    TRef.quaternary (TRef.of (T := ⟨S4096x16, .f32⟩) main_v30) (TRef.of (T := ⟨S4096x16, .i32⟩) main_call4_v0) (TRef.of (T := ⟨S_, .f32⟩) main_call4_cst) (TRef.of (T := ⟨S_, .i32⟩) main_call4_c) (TRef.of (T := ⟨S4096, .f32⟩) main_call4_v1_0) (fun x y u v j => (Host.argReduce reducer_argmax_f32_i32 x y u v reducesTo_S4096x16_S4096_d1 h_S_ j).1),
    TRef.quaternary (TRef.of (T := ⟨S4096x16, .f32⟩) main_v30) (TRef.of (T := ⟨S4096x16, .i32⟩) main_call4_v0) (TRef.of (T := ⟨S_, .f32⟩) main_call4_cst) (TRef.of (T := ⟨S_, .i32⟩) main_call4_c) (TRef.of (T := ⟨S4096, .i32⟩) main_v31) (fun x y u v j => (Host.argReduce reducer_argmax_f32_i32 x y u v reducesTo_S4096x16_S4096_d1 h_S_ j).2),
    TRef.unary (TRef.of (T := ⟨S4096, .i32⟩) main_v31) (TRef.of (T := ⟨S4096x1, .i32⟩) main_call5_v0) (broadcastInDim S4096x1 ![0] bcast_S4096_S4096x1_0),
    TRef.nullary (TRef.of (T := ⟨S1x16, .i32⟩) main_call5_v1) (iotaInDim S1x16 32 1),
    TRef.unary (TRef.of (T := ⟨S4096x1, .i32⟩) main_call5_v0) (TRef.of (T := ⟨S4096x16, .i32⟩) main_call5_v2) (broadcastInDim S4096x16 ![0, 1] bcast_S4096x1_S4096x16_0_1),
    TRef.unary (TRef.of (T := ⟨S1x16, .i32⟩) main_call5_v1) (TRef.of (T := ⟨S4096x16, .i32⟩) main_call5_v3) (broadcastInDim S4096x16 ![0, 1] bcast_S1x16_S4096x16_0_1),
    TRef.binary (TRef.of (T := ⟨S4096x16, .i32⟩) main_call5_v2) (TRef.of (T := ⟨S4096x16, .i32⟩) main_call5_v3) (TRef.of (T := ⟨S4096x16, .i1⟩) main_call5_v4) (cmpi .eq) ]

/-- @main's operations 61 … 90 of 175 (window `main_part0`). -/
abbrev ops_part0_2 : List (HloOp τ sig (Elt F)) :=
  [ TRef.unary (TRef.of (T := ⟨S4096x16, .i1⟩) main_call5_v4) (TRef.of (T := ⟨S4096x16, .f32⟩) main_v32) (uitofp .f32),
    nullary main_cst_7 (constant S_ .f32 0x00000000#32),
    unary main_cst_7 main_v33 (broadcastInDim S4096x16 ![] bcast_S_S4096x16 : (⟨S_, .f32⟩ : BufTy).Contents (Elt F) → (⟨S4096x16, .f32⟩ : BufTy).Contents (Elt F)),
    binary main_v32 main_v33 main_v34 (cmpf .ogt : (⟨S4096x16, .f32⟩ : BufTy).Contents (Elt F) → (⟨S4096x16, .f32⟩ : BufTy).Contents (Elt F) → (⟨S4096x16, .i1⟩ : BufTy).Contents (Elt F)),
    nullary main_cst_8 (constant S_ .f32 0xFF800000#32),
    TRef.unary (TRef.of (T := ⟨S_, .f32⟩) main_cst_8) (TRef.of (T := ⟨S_, .f32⟩) main_call6_v0) id,
    TRef.unary (TRef.of (T := ⟨S_, .f32⟩) main_call6_v0) (TRef.of (T := ⟨S4096x16, .f32⟩) main_call6_v1) (broadcastInDim S4096x16 ![] bcast_S_S4096x16),
    TRef.ternary (TRef.of (T := ⟨S4096x16, .i1⟩) main_v34) (TRef.of (T := ⟨S4096x16, .f32⟩) main_call6_v1) (TRef.of (T := ⟨S4096x16, .f32⟩) main_v19) (TRef.of (T := ⟨S4096x16, .f32⟩) main_v35) select,
    TRef.nullary (TRef.of (T := ⟨S4096x16, .i32⟩) main_call7_v0) (iotaInDim S4096x16 32 1),
    TRef.nullary (TRef.of (T := ⟨S_, .f32⟩) main_call7_cst) (constant S_ .f32 0xFF800000#32),
    TRef.nullary (TRef.of (T := ⟨S_, .i32⟩) main_call7_c) (constantI S_ 32 0#32),
    TRef.quaternary (TRef.of (T := ⟨S4096x16, .f32⟩) main_v35) (TRef.of (T := ⟨S4096x16, .i32⟩) main_call7_v0) (TRef.of (T := ⟨S_, .f32⟩) main_call7_cst) (TRef.of (T := ⟨S_, .i32⟩) main_call7_c) (TRef.of (T := ⟨S4096, .f32⟩) main_call7_v1_0) (fun x y u v j => (Host.argReduce reducer_argmax_f32_i32 x y u v reducesTo_S4096x16_S4096_d1 h_S_ j).1),
    TRef.quaternary (TRef.of (T := ⟨S4096x16, .f32⟩) main_v35) (TRef.of (T := ⟨S4096x16, .i32⟩) main_call7_v0) (TRef.of (T := ⟨S_, .f32⟩) main_call7_cst) (TRef.of (T := ⟨S_, .i32⟩) main_call7_c) (TRef.of (T := ⟨S4096, .i32⟩) main_v36) (fun x y u v j => (Host.argReduce reducer_argmax_f32_i32 x y u v reducesTo_S4096x16_S4096_d1 h_S_ j).2),
    TRef.unary (TRef.of (T := ⟨S4096, .i32⟩) main_v36) (TRef.of (T := ⟨S4096x1, .i32⟩) main_call8_v0) (broadcastInDim S4096x1 ![0] bcast_S4096_S4096x1_0),
    TRef.nullary (TRef.of (T := ⟨S1x16, .i32⟩) main_call8_v1) (iotaInDim S1x16 32 1),
    TRef.unary (TRef.of (T := ⟨S4096x1, .i32⟩) main_call8_v0) (TRef.of (T := ⟨S4096x16, .i32⟩) main_call8_v2) (broadcastInDim S4096x16 ![0, 1] bcast_S4096x1_S4096x16_0_1),
    TRef.unary (TRef.of (T := ⟨S1x16, .i32⟩) main_call8_v1) (TRef.of (T := ⟨S4096x16, .i32⟩) main_call8_v3) (broadcastInDim S4096x16 ![0, 1] bcast_S1x16_S4096x16_0_1),
    TRef.binary (TRef.of (T := ⟨S4096x16, .i32⟩) main_call8_v2) (TRef.of (T := ⟨S4096x16, .i32⟩) main_call8_v3) (TRef.of (T := ⟨S4096x16, .i1⟩) main_call8_v4) (cmpi .eq),
    TRef.unary (TRef.of (T := ⟨S4096x16, .i1⟩) main_call8_v4) (TRef.of (T := ⟨S4096x16, .f32⟩) main_v37) (uitofp .f32),
    TRef.nullary (TRef.of (T := ⟨S_, .f32⟩) main_call9_call0_cst) (constant S_ .f32 0x00000000#32),
    TRef.unary (TRef.of (T := ⟨S_, .f32⟩) main_call9_call0_cst) (TRef.of (T := ⟨S_, .f32⟩) main_call9_call0_v0) (broadcastInDim S_ ![] bcast_S_S_),
    TRef.binary (TRef.of (T := ⟨S4096x16, .f32⟩) main_v32) (TRef.of (T := ⟨S_, .f32⟩) main_call9_call0_v0) (TRef.of (T := ⟨S4096x16, .f32⟩) main_v38) (fun x v => Host.reduceWindowAdd ![4096, 1] ![1, 1] ![4095, 0] ![0, 0] x v reduceWindows_S4096x16_S4096x16_w4096s1p4095_0_w1s1p0_0 h_S_),
    nullary main_cst_9 (constant S_ .f32 0x3F800000#32),
    unary main_cst_9 main_v39 (broadcastInDim S4096x16 ![] bcast_S_S4096x16 : (⟨S_, .f32⟩ : BufTy).Contents (Elt F) → (⟨S4096x16, .f32⟩ : BufTy).Contents (Elt F)),
    binary main_v38 main_v39 main_v40 (subf : (⟨S4096x16, .f32⟩ : BufTy).Contents (Elt F) → (⟨S4096x16, .f32⟩ : BufTy).Contents (Elt F) → (⟨S4096x16, .f32⟩ : BufTy).Contents (Elt F)),
    TRef.nullary (TRef.of (T := ⟨S_, .f32⟩) main_call10_call0_cst) (constant S_ .f32 0x00000000#32),
    TRef.unary (TRef.of (T := ⟨S_, .f32⟩) main_call10_call0_cst) (TRef.of (T := ⟨S_, .f32⟩) main_call10_call0_v0) (broadcastInDim S_ ![] bcast_S_S_),
    TRef.binary (TRef.of (T := ⟨S4096x16, .f32⟩) main_v37) (TRef.of (T := ⟨S_, .f32⟩) main_call10_call0_v0) (TRef.of (T := ⟨S4096x16, .f32⟩) main_v41) (fun x v => Host.reduceWindowAdd ![4096, 1] ![1, 1] ![4095, 0] ![0, 0] x v reduceWindows_S4096x16_S4096x16_w4096s1p4095_0_w1s1p0_0 h_S_),
    nullary main_cst_10 (constant S_ .f32 0x3F800000#32),
    unary main_cst_10 main_v42 (broadcastInDim S4096x16 ![] bcast_S_S4096x16 : (⟨S_, .f32⟩ : BufTy).Contents (Elt F) → (⟨S4096x16, .f32⟩ : BufTy).Contents (Elt F)) ]

/-- @main's operations 91 … 95 of 175 (window `main_part0`). -/
abbrev ops_part0_3 : List (HloOp τ sig (Elt F)) :=
  [ binary main_v41 main_v42 main_v43 (subf : (⟨S4096x16, .f32⟩ : BufTy).Contents (Elt F) → (⟨S4096x16, .f32⟩ : BufTy).Contents (Elt F) → (⟨S4096x16, .f32⟩ : BufTy).Contents (Elt F)),
    nullary main_cst_11 (constant S_ .f32 0x00000000#32),
    binary main_v32 main_cst_11 main_v44 ((fun x v => Host.reduceAdd x v reducesTo_S4096x16_S16_d0 h_S_) : (⟨S4096x16, .f32⟩ : BufTy).Contents (Elt F) → (⟨S_, .f32⟩ : BufTy).Contents (Elt F) → (⟨S16, .f32⟩ : BufTy).Contents (Elt F)),
    unary main_v44 main_v45 (broadcastInDim S1x16 ![1] bcast_S16_S1x16_1 : (⟨S16, .f32⟩ : BufTy).Contents (Elt F) → (⟨S1x16, .f32⟩ : BufTy).Contents (Elt F)),
    unary main_v45 main_v46 (broadcastInDim S4096x16 ![0, 1] bcast_S1x16_S4096x16_0_1 : (⟨S1x16, .f32⟩ : BufTy).Contents (Elt F) → (⟨S4096x16, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3)))

/-- @main's operations 96 … 125 of 175 (window `main_part1`). -/
abbrev ops_part1_0 : List (HloOp τ sig (Elt F)) :=
  [ binary main_v43 main_v46 main_v47 (addf : (⟨S4096x16, .f32⟩ : BufTy).Contents (Elt F) → (⟨S4096x16, .f32⟩ : BufTy).Contents (Elt F) → (⟨S4096x16, .f32⟩ : BufTy).Contents (Elt F)),
    nullary main_cst_12 (constant S_ .f32 0x00000000#32),
    binary main_v30 main_cst_12 main_v48 ((fun x v => Host.reduceAdd x v reducesTo_S4096x16_S16_d0 h_S_) : (⟨S4096x16, .f32⟩ : BufTy).Contents (Elt F) → (⟨S_, .f32⟩ : BufTy).Contents (Elt F) → (⟨S16, .f32⟩ : BufTy).Contents (Elt F)),
    nullary main_cst_13 (constant S_ .f32 0x45800000#32),
    unary main_cst_13 main_v49 (broadcastInDim S16 ![] bcast_S_S16 : (⟨S_, .f32⟩ : BufTy).Contents (Elt F) → (⟨S16, .f32⟩ : BufTy).Contents (Elt F)),
    binary main_v48 main_v49 main_v50 (Host.divf : (⟨S16, .f32⟩ : BufTy).Contents (Elt F) → (⟨S16, .f32⟩ : BufTy).Contents (Elt F) → (⟨S16, .f32⟩ : BufTy).Contents (Elt F)),
    nullary main_cst_14 (constant S_ .f32 0x00000000#32),
    binary main_v32 main_cst_14 main_v51 ((fun x v => Host.reduceAdd x v reducesTo_S4096x16_S16_d0 h_S_) : (⟨S4096x16, .f32⟩ : BufTy).Contents (Elt F) → (⟨S_, .f32⟩ : BufTy).Contents (Elt F) → (⟨S16, .f32⟩ : BufTy).Contents (Elt F)),
    nullary main_cst_15 (constant S_ .f32 0x45800000#32),
    unary main_cst_15 main_v52 (broadcastInDim S16 ![] bcast_S_S16 : (⟨S_, .f32⟩ : BufTy).Contents (Elt F) → (⟨S16, .f32⟩ : BufTy).Contents (Elt F)),
    binary main_v51 main_v52 main_v53 (Host.divf : (⟨S16, .f32⟩ : BufTy).Contents (Elt F) → (⟨S16, .f32⟩ : BufTy).Contents (Elt F) → (⟨S16, .f32⟩ : BufTy).Contents (Elt F)),
    binary main_v50 main_v53 main_v54 (mulf : (⟨S16, .f32⟩ : BufTy).Contents (Elt F) → (⟨S16, .f32⟩ : BufTy).Contents (Elt F) → (⟨S16, .f32⟩ : BufTy).Contents (Elt F)),
    nullary main_cst_16 (constant S_ .f32 0x00000000#32),
    binary main_v54 main_cst_16 main_v55 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    nullary main_cst_17 (constant S_ .f32 0x41800000#32),
    binary main_v55 main_cst_17 main_v56 (Host.divf : (⟨S_, .f32⟩ : BufTy).Contents (Elt F) → (⟨S_, .f32⟩ : BufTy).Contents (Elt F) → (⟨S_, .f32⟩ : BufTy).Contents (Elt F)),
    nullary main_cst_18 (constant S_ .f32 0x43800000#32),
    binary main_v56 main_cst_18 main_v57 (mulf : (⟨S_, .f32⟩ : BufTy).Contents (Elt F) → (⟨S_, .f32⟩ : BufTy).Contents (Elt F) → (⟨S_, .f32⟩ : BufTy).Contents (Elt F)),
    nullary main_cst_19 (constant S_ .f32 0x44000000#32),
    unary main_cst_19 main_v58 (broadcastInDim S4096x16 ![] bcast_S_S4096x16 : (⟨S_, .f32⟩ : BufTy).Contents (Elt F) → (⟨S4096x16, .f32⟩ : BufTy).Contents (Elt F)),
    binary main_v40 main_v58 main_v59 (cmpf .olt : (⟨S4096x16, .f32⟩ : BufTy).Contents (Elt F) → (⟨S4096x16, .f32⟩ : BufTy).Contents (Elt F) → (⟨S4096x16, .i1⟩ : BufTy).Contents (Elt F)),
    unary main_v59 main_v60 (uitofp .f32 : (⟨S4096x16, .i1⟩ : BufTy).Contents (Elt F) → (⟨S4096x16, .f32⟩ : BufTy).Contents (Elt F)),
    binary main_v32 main_v60 main_v61 (mulf : (⟨S4096x16, .f32⟩ : BufTy).Contents (Elt F) → (⟨S4096x16, .f32⟩ : BufTy).Contents (Elt F) → (⟨S4096x16, .f32⟩ : BufTy).Contents (Elt F)),
    nullary main_cst_20 (constant S_ .f32 0x44000000#32),
    unary main_cst_20 main_v62 (broadcastInDim S4096x16 ![] bcast_S_S4096x16 : (⟨S_, .f32⟩ : BufTy).Contents (Elt F) → (⟨S4096x16, .f32⟩ : BufTy).Contents (Elt F)),
    binary main_v47 main_v62 main_v63 (cmpf .olt : (⟨S4096x16, .f32⟩ : BufTy).Contents (Elt F) → (⟨S4096x16, .f32⟩ : BufTy).Contents (Elt F) → (⟨S4096x16, .i1⟩ : BufTy).Contents (Elt F)),
    unary main_v63 main_v64 (uitofp .f32 : (⟨S4096x16, .i1⟩ : BufTy).Contents (Elt F) → (⟨S4096x16, .f32⟩ : BufTy).Contents (Elt F)),
    binary main_v37 main_v64 main_v65 (mulf : (⟨S4096x16, .f32⟩ : BufTy).Contents (Elt F) → (⟨S4096x16, .f32⟩ : BufTy).Contents (Elt F) → (⟨S4096x16, .f32⟩ : BufTy).Contents (Elt F)),
    binary main_v30 main_v61 main_v66 (mulf : (⟨S4096x16, .f32⟩ : BufTy).Contents (Elt F) → (⟨S4096x16, .f32⟩ : BufTy).Contents (Elt F) → (⟨S4096x16, .f32⟩ : BufTy).Contents (Elt F)),
    nullary main_cst_21 (constant S_ .f32 0x00000000#32) ]

/-- @main's operations 126 … 155 of 175 (window `main_part1`). -/
abbrev ops_part1_1 : List (HloOp τ sig (Elt F)) :=
  [ binary main_v66 main_cst_21 main_v67 ((fun x v => Host.reduceAdd x v reducesTo_S4096x16_S4096_d1 h_S_) : (⟨S4096x16, .f32⟩ : BufTy).Contents (Elt F) → (⟨S_, .f32⟩ : BufTy).Contents (Elt F) → (⟨S4096, .f32⟩ : BufTy).Contents (Elt F)),
    binary main_v30 main_v65 main_v68 (mulf : (⟨S4096x16, .f32⟩ : BufTy).Contents (Elt F) → (⟨S4096x16, .f32⟩ : BufTy).Contents (Elt F) → (⟨S4096x16, .f32⟩ : BufTy).Contents (Elt F)),
    nullary main_cst_22 (constant S_ .f32 0x00000000#32),
    binary main_v68 main_cst_22 main_v69 ((fun x v => Host.reduceAdd x v reducesTo_S4096x16_S4096_d1 h_S_) : (⟨S4096x16, .f32⟩ : BufTy).Contents (Elt F) → (⟨S_, .f32⟩ : BufTy).Contents (Elt F) → (⟨S4096, .f32⟩ : BufTy).Contents (Elt F)),
    binary main_v67 main_v69 main_v70 (addf : (⟨S4096, .f32⟩ : BufTy).Contents (Elt F) → (⟨S4096, .f32⟩ : BufTy).Contents (Elt F) → (⟨S4096, .f32⟩ : BufTy).Contents (Elt F)),
    nullary main_cst_23 (constant S_ .f32 0x34000000#32),
    unary main_cst_23 main_v71 (broadcastInDim S4096 ![] bcast_S_S4096 : (⟨S_, .f32⟩ : BufTy).Contents (Elt F) → (⟨S4096, .f32⟩ : BufTy).Contents (Elt F)),
    binary main_v70 main_v71 main_v72 (maximumf : (⟨S4096, .f32⟩ : BufTy).Contents (Elt F) → (⟨S4096, .f32⟩ : BufTy).Contents (Elt F) → (⟨S4096, .f32⟩ : BufTy).Contents (Elt F)),
    binary main_v67 main_v72 main_v73 (Host.divf : (⟨S4096, .f32⟩ : BufTy).Contents (Elt F) → (⟨S4096, .f32⟩ : BufTy).Contents (Elt F) → (⟨S4096, .f32⟩ : BufTy).Contents (Elt F)),
    binary main_v69 main_v72 main_v74 (Host.divf : (⟨S4096, .f32⟩ : BufTy).Contents (Elt F) → (⟨S4096, .f32⟩ : BufTy).Contents (Elt F) → (⟨S4096, .f32⟩ : BufTy).Contents (Elt F)),
    binary main_v40 main_v61 main_v75 (mulf : (⟨S4096x16, .f32⟩ : BufTy).Contents (Elt F) → (⟨S4096x16, .f32⟩ : BufTy).Contents (Elt F) → (⟨S4096x16, .f32⟩ : BufTy).Contents (Elt F)),
    nullary main_cst_24 (constant S_ .f32 0x00000000#32),
    binary main_v75 main_cst_24 main_v76 ((fun x v => Host.reduceAdd x v reducesTo_S4096x16_S4096_d1 h_S_) : (⟨S4096x16, .f32⟩ : BufTy).Contents (Elt F) → (⟨S_, .f32⟩ : BufTy).Contents (Elt F) → (⟨S4096, .f32⟩ : BufTy).Contents (Elt F)),
    unary main_v76 main_v77 (fptosi 32 : (⟨S4096, .f32⟩ : BufTy).Contents (Elt F) → (⟨S4096, .i32⟩ : BufTy).Contents (Elt F)),
    binary main_v47 main_v65 main_v78 (mulf : (⟨S4096x16, .f32⟩ : BufTy).Contents (Elt F) → (⟨S4096x16, .f32⟩ : BufTy).Contents (Elt F) → (⟨S4096x16, .f32⟩ : BufTy).Contents (Elt F)),
    nullary main_cst_25 (constant S_ .f32 0x00000000#32),
    binary main_v78 main_cst_25 main_v79 ((fun x v => Host.reduceAdd x v reducesTo_S4096x16_S4096_d1 h_S_) : (⟨S4096x16, .f32⟩ : BufTy).Contents (Elt F) → (⟨S_, .f32⟩ : BufTy).Contents (Elt F) → (⟨S4096, .f32⟩ : BufTy).Contents (Elt F)),
    unary main_v79 main_v80 (fptosi 32 : (⟨S4096, .f32⟩ : BufTy).Contents (Elt F) → (⟨S4096, .i32⟩ : BufTy).Contents (Elt F)),
    unary main_v73 main_v81 (broadcastInDim S4096x1 ![0] bcast_S4096_S4096x1_0 : (⟨S4096, .f32⟩ : BufTy).Contents (Elt F) → (⟨S4096x1, .f32⟩ : BufTy).Contents (Elt F)),
    unary main_v81 main_v82 (broadcastInDim S4096x16 ![0, 1] bcast_S4096x1_S4096x16_0_1 : (⟨S4096x1, .f32⟩ : BufTy).Contents (Elt F) → (⟨S4096x16, .f32⟩ : BufTy).Contents (Elt F)),
    binary main_v82 main_v61 main_v83 (mulf : (⟨S4096x16, .f32⟩ : BufTy).Contents (Elt F) → (⟨S4096x16, .f32⟩ : BufTy).Contents (Elt F) → (⟨S4096x16, .f32⟩ : BufTy).Contents (Elt F)),
    unary main_v74 main_v84 (broadcastInDim S4096x1 ![0] bcast_S4096_S4096x1_0 : (⟨S4096, .f32⟩ : BufTy).Contents (Elt F) → (⟨S4096x1, .f32⟩ : BufTy).Contents (Elt F)),
    unary main_v84 main_v85 (broadcastInDim S4096x16 ![0, 1] bcast_S4096x1_S4096x16_0_1 : (⟨S4096x1, .f32⟩ : BufTy).Contents (Elt F) → (⟨S4096x16, .f32⟩ : BufTy).Contents (Elt F)),
    binary main_v85 main_v65 main_v86 (mulf : (⟨S4096x16, .f32⟩ : BufTy).Contents (Elt F) → (⟨S4096x16, .f32⟩ : BufTy).Contents (Elt F) → (⟨S4096x16, .f32⟩ : BufTy).Contents (Elt F)),
    TRef.unary (TRef.of (T := ⟨S4096, .i32⟩) main_v77) (TRef.of (T := ⟨S4096x1, .i32⟩) main_call11_v0) (broadcastInDim S4096x1 ![0] bcast_S4096_S4096x1_0),
    TRef.nullary (TRef.of (T := ⟨S1x512, .i32⟩) main_call11_v1) (iotaInDim S1x512 32 1),
    TRef.unary (TRef.of (T := ⟨S4096x1, .i32⟩) main_call11_v0) (TRef.of (T := ⟨S4096x512, .i32⟩) main_call11_v2) (broadcastInDim S4096x512 ![0, 1] bcast_S4096x1_S4096x512_0_1),
    TRef.unary (TRef.of (T := ⟨S1x512, .i32⟩) main_call11_v1) (TRef.of (T := ⟨S4096x512, .i32⟩) main_call11_v3) (broadcastInDim S4096x512 ![0, 1] bcast_S1x512_S4096x512_0_1),
    TRef.binary (TRef.of (T := ⟨S4096x512, .i32⟩) main_call11_v2) (TRef.of (T := ⟨S4096x512, .i32⟩) main_call11_v3) (TRef.of (T := ⟨S4096x512, .i1⟩) main_call11_v4) (cmpi .eq),
    TRef.unary (TRef.of (T := ⟨S4096x512, .i1⟩) main_call11_v4) (TRef.of (T := ⟨S4096x512, .f32⟩) main_v87) (uitofp .f32) ]

/-- @main's operations 156 … 165 of 175 (window `main_part1`). -/
abbrev ops_part1_2 : List (HloOp τ sig (Elt F)) :=
  [ TRef.unary (TRef.of (T := ⟨S4096, .i32⟩) main_v80) (TRef.of (T := ⟨S4096x1, .i32⟩) main_call12_v0) (broadcastInDim S4096x1 ![0] bcast_S4096_S4096x1_0),
    TRef.nullary (TRef.of (T := ⟨S1x512, .i32⟩) main_call12_v1) (iotaInDim S1x512 32 1),
    TRef.unary (TRef.of (T := ⟨S4096x1, .i32⟩) main_call12_v0) (TRef.of (T := ⟨S4096x512, .i32⟩) main_call12_v2) (broadcastInDim S4096x512 ![0, 1] bcast_S4096x1_S4096x512_0_1),
    TRef.unary (TRef.of (T := ⟨S1x512, .i32⟩) main_call12_v1) (TRef.of (T := ⟨S4096x512, .i32⟩) main_call12_v3) (broadcastInDim S4096x512 ![0, 1] bcast_S1x512_S4096x512_0_1),
    TRef.binary (TRef.of (T := ⟨S4096x512, .i32⟩) main_call12_v2) (TRef.of (T := ⟨S4096x512, .i32⟩) main_call12_v3) (TRef.of (T := ⟨S4096x512, .i1⟩) main_call12_v4) (cmpi .eq),
    TRef.unary (TRef.of (T := ⟨S4096x512, .i1⟩) main_call12_v4) (TRef.of (T := ⟨S4096x512, .f32⟩) main_v88) (uitofp .f32),
    unary main_v83 main_v89 (broadcastInDim S4096x16x1 ![0, 1] bcast_S4096x16_S4096x16x1_0_1 : (⟨S4096x16, .f32⟩ : BufTy).Contents (Elt F) → (⟨S4096x16x1, .f32⟩ : BufTy).Contents (Elt F)),
    unary main_v87 main_v90 (broadcastInDim S4096x1x512 ![0, 2] bcast_S4096x512_S4096x1x512_0_2 : (⟨S4096x512, .f32⟩ : BufTy).Contents (Elt F) → (⟨S4096x1x512, .f32⟩ : BufTy).Contents (Elt F)),
    unary main_v89 main_v91 (broadcastInDim S4096x16x512 ![0, 1, 2] bcast_S4096x16x1_S4096x16x512_0_1_2 : (⟨S4096x16x1, .f32⟩ : BufTy).Contents (Elt F) → (⟨S4096x16x512, .f32⟩ : BufTy).Contents (Elt F)),
    unary main_v90 main_v92 (broadcastInDim S4096x16x512 ![0, 1, 2] bcast_S4096x1x512_S4096x16x512_0_1_2 : (⟨S4096x1x512, .f32⟩ : BufTy).Contents (Elt F) → (⟨S4096x16x512, .f32⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 166 … 175 of 175 (window `main_part2`). -/
abbrev ops_part2 : List (HloOp τ sig (Elt F)) :=
  [ binary main_v91 main_v92 main_v93 (mulf : (⟨S4096x16x512, .f32⟩ : BufTy).Contents (Elt F) → (⟨S4096x16x512, .f32⟩ : BufTy).Contents (Elt F) → (⟨S4096x16x512, .f32⟩ : BufTy).Contents (Elt F)),
    unary main_v86 main_v94 (broadcastInDim S4096x16x1 ![0, 1] bcast_S4096x16_S4096x16x1_0_1 : (⟨S4096x16, .f32⟩ : BufTy).Contents (Elt F) → (⟨S4096x16x1, .f32⟩ : BufTy).Contents (Elt F)),
    unary main_v88 main_v95 (broadcastInDim S4096x1x512 ![0, 2] bcast_S4096x512_S4096x1x512_0_2 : (⟨S4096x512, .f32⟩ : BufTy).Contents (Elt F) → (⟨S4096x1x512, .f32⟩ : BufTy).Contents (Elt F)),
    unary main_v94 main_v96 (broadcastInDim S4096x16x512 ![0, 1, 2] bcast_S4096x16x1_S4096x16x512_0_1_2 : (⟨S4096x16x1, .f32⟩ : BufTy).Contents (Elt F) → (⟨S4096x16x512, .f32⟩ : BufTy).Contents (Elt F)),
    unary main_v95 main_v97 (broadcastInDim S4096x16x512 ![0, 1, 2] bcast_S4096x1x512_S4096x16x512_0_1_2 : (⟨S4096x1x512, .f32⟩ : BufTy).Contents (Elt F) → (⟨S4096x16x512, .f32⟩ : BufTy).Contents (Elt F)),
    binary main_v96 main_v97 main_v98 (mulf : (⟨S4096x16x512, .f32⟩ : BufTy).Contents (Elt F) → (⟨S4096x16x512, .f32⟩ : BufTy).Contents (Elt F) → (⟨S4096x16x512, .f32⟩ : BufTy).Contents (Elt F)),
    binary main_v93 main_v98 main_v99 (addf : (⟨S4096x16x512, .f32⟩ : BufTy).Contents (Elt F) → (⟨S4096x16x512, .f32⟩ : BufTy).Contents (Elt F) → (⟨S4096x16x512, .f32⟩ : BufTy).Contents (Elt F)),
    nullary main_cst_26 (constant S_ .f32 0x00000000#32),
    unary main_cst_26 main_v100 (broadcastInDim S4096x16x512 ![] bcast_S_S4096x16x512 : (⟨S_, .f32⟩ : BufTy).Contents (Elt F) → (⟨S4096x16x512, .f32⟩ : BufTy).Contents (Elt F)),
    binary main_v99 main_v100 main_v101 (cmpf .une : (⟨S4096x16x512, .f32⟩ : BufTy).Contents (Elt F) → (⟨S4096x16x512, .f32⟩ : BufTy).Contents (Elt F) → (⟨S4096x16x512, .i1⟩ : BufTy).Contents (Elt F)) ]

/-- @main's 175 operations, in order (a called function's operations stand in its call's place, spelt `TRef.…`). -/
abbrev ops : List (HloOp τ sig (Elt F)) :=
  ops_part0 ++ (ops_part1 ++ (ops_part2))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
theorem main_part2_eq (c : Dev nD) : main_part2 (F := F) c = seq ops_part2 := rfl
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., unary_bufs_sub .., nullary_bufs_sub .., unary_bufs_sub .., binary_bufs_sub .., nullary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., ternary_bufs_sub .., nullary_bufs_sub .., binary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨unary_bufs_sub .., nullary_bufs_sub .., unary_bufs_sub .., binary_bufs_sub .., nullary_bufs_sub .., unary_bufs_sub .., unary_bufs_sub .., ternary_bufs_sub .., nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨binary_bufs_sub .., nullary_bufs_sub .., binary_bufs_sub .., unary_bufs_sub .., unary_bufs_sub ..⟩
set_option maxRecDepth 8192 in
theorem ops_part0_3_fresh : (ops_part0_3 : List (HloOp τ sig (Elt F))).Forall fun op => op.fresh = ∅ :=
  ⟨rfl, rfl, rfl, rfl, rfl⟩
set_option maxRecDepth 8192 in
theorem ops_part1_0_sub : (ops_part1_0 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., binary_bufs_sub .., nullary_bufs_sub .., unary_bufs_sub .., binary_bufs_sub .., binary_bufs_sub .., nullary_bufs_sub .., binary_bufs_sub .., nullary_bufs_sub .., binary_bufs_sub .., nullary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., binary_bufs_sub .., nullary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨binary_bufs_sub .., binary_bufs_sub .., nullary_bufs_sub .., binary_bufs_sub .., binary_bufs_sub .., nullary_bufs_sub .., unary_bufs_sub .., binary_bufs_sub .., binary_bufs_sub .., binary_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., unary_bufs_sub .., binary_bufs_sub .., unary_bufs_sub .., nullary_bufs_sub .., unary_bufs_sub .., unary_bufs_sub .., binary_bufs_sub .., unary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., nullary_bufs_sub .., unary_bufs_sub .., unary_bufs_sub .., binary_bufs_sub .., unary_bufs_sub .., unary_bufs_sub .., unary_bufs_sub .., unary_bufs_sub .., unary_bufs_sub ..⟩
set_option maxRecDepth 8192 in
theorem ops_part1_2_fresh : (ops_part1_2 : List (HloOp τ sig (Elt F))).Forall fun op => op.fresh = ∅ :=
  ⟨rfl, rfl, rfl, rfl, rfl, rfl, rfl, rfl, rfl, rfl⟩
set_option maxRecDepth 8192 in
theorem ops_part2_sub : (ops_part2 : List (HloOp τ sig (Elt F))).Forall fun op => op.bufs ⊆ tcRefs τ sig :=
  ⟨binary_bufs_sub .., unary_bufs_sub .., unary_bufs_sub .., unary_bufs_sub .., unary_bufs_sub .., binary_bufs_sub .., binary_bufs_sub .., nullary_bufs_sub .., unary_bufs_sub .., binary_bufs_sub ..⟩
set_option maxRecDepth 8192 in
theorem ops_part2_fresh : (ops_part2 : List (HloOp τ sig (Elt F))).Forall fun op => op.fresh = ∅ :=
  ⟨rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, List.mem_append, or_assoc] at h
    rcases h with h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part1_0_sub op h, List.forall_iff_forall_mem.mp ops_part1_1_sub op h, List.forall_iff_forall_mem.mp ops_part1_2_sub op h, List.forall_iff_forall_mem.mp ops_part2_sub op h]
theorem ops_fresh : ∀ op ∈ (ops : List (HloOp τ sig (Elt F))), op.fresh = ∅ := fun op h => by
    simp only [ops, ops_part0, ops_part1, List.mem_append, or_assoc] at h
    rcases h with h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part1_0_fresh op h, List.forall_iff_forall_mem.mp ops_part1_1_fresh op h, List.forall_iff_forall_mem.mp ops_part1_2_fresh op h, List.forall_iff_forall_mem.mp ops_part2_fresh op h]

set_option maxRecDepth 8192 in
/-- `main_v6`'s composed term of the arguments (named: it is used 3 times). -/
def res_main_v6 (V0 : Valuation τ sig (Elt F)) : (Proc.devRef .tc main_v6 : DevRef τ sig).ty.Contents (Elt F) :=
  mulf (V0 (Proc.devRef .tc main_arg2)) (broadcastInDim S16x4 ![0, 1] bcast_S16x1_S16x4_0_1 (Host.divf (broadcastInDim S16x1 ![] bcast_S_S16x1 (constant S_ .f32 0x3FC00000#32)) (Host.sqrt (broadcastInDim S16x1 ![0] bcast_S16_S16x1_0 (Host.reduceAdd (mulf (V0 (Proc.devRef .tc main_arg2)) (V0 (Proc.devRef .tc main_arg2))) (constant S_ .f32 0x00000000#32) reducesTo_S16x4_S16_d1 h_S_)))))

set_option maxRecDepth 8192 in
/-- `main_v13`'s composed term of the arguments (named: it is used 3 times). -/
def res_main_v13 (V0 : Valuation τ sig (Elt F)) : (Proc.devRef .tc main_v13 : DevRef τ sig).ty.Contents (Elt F) :=
  Host.dotGeneral dot_S4096x4_S4x16_S4096x16_1_0_0_1_n_n none (Host.dotGeneral dot_S4096x4096_S4096x4_S4096x4_1_0_0_1_n_n none (V0 (Proc.devRef .tc main_arg0)) (transpose S4096x4 [1, 0] (V0 (Proc.devRef .tc main_arg1)) transposes_S4x4096_S4096x4_1_0)) (transpose S4x16 [1, 0] (Host.divf (res_main_v6 V0) (broadcastInDim S16x4 ![0, 1] bcast_S16x1_S16x4_0_1 (maximumf (Host.sqrt (broadcastInDim S16x1 ![0] bcast_S16_S16x1_0 (Host.reduceAdd (mulf (res_main_v6 V0) (res_main_v6 V0)) (constant S_ .f32 0x00000000#32) reducesTo_S16x4_S16_d1 h_S_))) (broadcastInDim S16x1 ![] bcast_S_S16x1 (constant S_ .f32 0x38D1B717#32))))) transposes_S16x4_S4x16_1_0)

set_option maxRecDepth 8192 in
/-- `main_v16`'s composed term of the arguments (named: it is used 2 times). -/
def res_main_v16 (V0 : Valuation τ sig (Elt F)) : (Proc.devRef .tc main_v16 : DevRef τ sig).ty.Contents (Elt F) :=
  cmpf .olt (Host.absf (res_main_v13 V0)) (broadcastInDim S4096x16 ![] bcast_S_S4096x16 (constant S_ .f32 0x7F800000#32))

set_option maxRecDepth 8192 in
/-- `main_v19`'s composed term of the arguments (named: it is used 3 times). -/
def res_main_v19 (V0 : Valuation τ sig (Elt F)) : (Proc.devRef .tc main_v19 : DevRef τ sig).ty.Contents (Elt F) :=
  select (res_main_v16 V0) (res_main_v13 V0) (broadcastInDim S4096x16 ![] bcast_S_S4096x16 (Host.reduce FloatOps.minimumf (select (res_main_v16 V0) (res_main_v13 V0) (broadcastInDim S4096x16 ![] bcast_S_S4096x16 (id (constant S_ .f32 0x7F800000#32)))) (constant S_ .f32 0x7F800000#32) reducesTo_S4096x16_S_d0_1 h_S_))

set_option maxRecDepth 8192 in
/-- `main_v26`'s composed term of the arguments (named: it is used 2 times). -/
def res_main_v26 (V0 : Valuation τ sig (Elt F)) : (Proc.devRef .tc main_v26 : DevRef τ sig).ty.Contents (Elt F) :=
  Host.exp (subf (res_main_v19 V0) (broadcastInDim S4096x16 ![0, 1] bcast_S4096x1_S4096x16_0_1 (broadcastInDim S4096x1 ![0] bcast_S4096_S4096x1_0 (maximumf (broadcastInDim S4096 ![] bcast_S_S4096 (constant S_ .f32 0xFF800000#32)) (Host.reduce FloatOps.maximumf (res_main_v19 V0) (constant S_ .f32 0xFF800000#32) reducesTo_S4096x16_S4096_d1 h_S_)))))

set_option maxRecDepth 8192 in
/-- `main_v30`'s composed term of the arguments (named: it is used 5 times). -/
def res_main_v30 (V0 : Valuation τ sig (Elt F)) : (Proc.devRef .tc main_v30 : DevRef τ sig).ty.Contents (Elt F) :=
  Host.divf (res_main_v26 V0) (broadcastInDim S4096x16 ![0, 1] bcast_S4096x1_S4096x16_0_1 (broadcastInDim S4096x1 ![0] bcast_S4096_S4096x1_0 (Host.reduceAdd (res_main_v26 V0) (constant S_ .f32 0x00000000#32) reducesTo_S4096x16_S4096_d1 h_S_)))

set_option maxRecDepth 8192 in
/-- `main_call4_v0`'s composed term of the arguments (named: it is used 2 times). -/
def res_main_call4_v0 (V0 : Valuation τ sig (Elt F)) : (Proc.devRef .tc main_call4_v0 : DevRef τ sig).ty.Contents (Elt F) :=
  iotaInDim S4096x16 32 1

set_option maxRecDepth 8192 in
/-- `main_call4_cst`'s composed term of the arguments (named: it is used 2 times). -/
def res_main_call4_cst (V0 : Valuation τ sig (Elt F)) : (Proc.devRef .tc main_call4_cst : DevRef τ sig).ty.Contents (Elt F) :=
  constant S_ .f32 0xFF800000#32

set_option maxRecDepth 8192 in
/-- `main_call4_c`'s composed term of the arguments (named: it is used 2 times). -/
def res_main_call4_c (V0 : Valuation τ sig (Elt F)) : (Proc.devRef .tc main_call4_c : DevRef τ sig).ty.Contents (Elt F) :=
  constantI S_ 32 0#32

set_option maxRecDepth 8192 in
/-- `main_v32`'s composed term of the arguments (named: it is used 5 times). -/
def res_main_v32 (V0 : Valuation τ sig (Elt F)) : (Proc.devRef .tc main_v32 : DevRef τ sig).ty.Contents (Elt F) :=
  uitofp .f32 (cmpi .eq (broadcastInDim S4096x16 ![0, 1] bcast_S4096x1_S4096x16_0_1 (broadcastInDim S4096x1 ![0] bcast_S4096_S4096x1_0 ((fun j => (Host.argReduce reducer_argmax_f32_i32 (res_main_v30 V0) (res_main_call4_v0 V0) (res_main_call4_cst V0) (res_main_call4_c V0) reducesTo_S4096x16_S4096_d1 h_S_ j).2)))) (broadcastInDim S4096x16 ![0, 1] bcast_S1x16_S4096x16_0_1 (iotaInDim S1x16 32 1)))

set_option maxRecDepth 8192 in
/-- `main_v35`'s composed term of the arguments (named: it is used 2 times). -/
def res_main_v35 (V0 : Valuation τ sig (Elt F)) : (Proc.devRef .tc main_v35 : DevRef τ sig).ty.Contents (Elt F) :=
  select (cmpf .ogt (res_main_v32 V0) (broadcastInDim S4096x16 ![] bcast_S_S4096x16 (constant S_ .f32 0x00000000#32))) (broadcastInDim S4096x16 ![] bcast_S_S4096x16 (id (constant S_ .f32 0xFF800000#32))) (res_main_v19 V0)

set_option maxRecDepth 8192 in
/-- `main_call7_v0`'s composed term of the arguments (named: it is used 2 times). -/
def res_main_call7_v0 (V0 : Valuation τ sig (Elt F)) : (Proc.devRef .tc main_call7_v0 : DevRef τ sig).ty.Contents (Elt F) :=
  iotaInDim S4096x16 32 1

set_option maxRecDepth 8192 in
/-- `main_call7_cst`'s composed term of the arguments (named: it is used 2 times). -/
def res_main_call7_cst (V0 : Valuation τ sig (Elt F)) : (Proc.devRef .tc main_call7_cst : DevRef τ sig).ty.Contents (Elt F) :=
  constant S_ .f32 0xFF800000#32

set_option maxRecDepth 8192 in
/-- `main_call7_c`'s composed term of the arguments (named: it is used 2 times). -/
def res_main_call7_c (V0 : Valuation τ sig (Elt F)) : (Proc.devRef .tc main_call7_c : DevRef τ sig).ty.Contents (Elt F) :=
  constantI S_ 32 0#32

set_option maxRecDepth 8192 in
/-- `main_v37`'s composed term of the arguments (named: it is used 2 times). -/
def res_main_v37 (V0 : Valuation τ sig (Elt F)) : (Proc.devRef .tc main_v37 : DevRef τ sig).ty.Contents (Elt F) :=
  uitofp .f32 (cmpi .eq (broadcastInDim S4096x16 ![0, 1] bcast_S4096x1_S4096x16_0_1 (broadcastInDim S4096x1 ![0] bcast_S4096_S4096x1_0 ((fun j => (Host.argReduce reducer_argmax_f32_i32 (res_main_v35 V0) (res_main_call7_v0 V0) (res_main_call7_cst V0) (res_main_call7_c V0) reducesTo_S4096x16_S4096_d1 h_S_ j).2)))) (broadcastInDim S4096x16 ![0, 1] bcast_S1x16_S4096x16_0_1 (iotaInDim S1x16 32 1)))

set_option maxRecDepth 8192 in
/-- `main_v40`'s composed term of the arguments (named: it is used 2 times). -/
def res_main_v40 (V0 : Valuation τ sig (Elt F)) : (Proc.devRef .tc main_v40 : DevRef τ sig).ty.Contents (Elt F) :=
  subf (Host.reduceWindowAdd ![4096, 1] ![1, 1] ![4095, 0] ![0, 0] (res_main_v32 V0) (broadcastInDim S_ ![] bcast_S_S_ (constant S_ .f32 0x00000000#32)) reduceWindows_S4096x16_S4096x16_w4096s1p4095_0_w1s1p0_0 h_S_) (broadcastInDim S4096x16 ![] bcast_S_S4096x16 (constant S_ .f32 0x3F800000#32))

set_option maxRecDepth 8192 in
/-- `main_v47`'s composed term of the arguments (named: it is used 2 times). -/
def res_main_v47 (V0 : Valuation τ sig (Elt F)) : (Proc.devRef .tc main_v47 : DevRef τ sig).ty.Contents (Elt F) :=
  addf (subf (Host.reduceWindowAdd ![4096, 1] ![1, 1] ![4095, 0] ![0, 0] (res_main_v37 V0) (broadcastInDim S_ ![] bcast_S_S_ (constant S_ .f32 0x00000000#32)) reduceWindows_S4096x16_S4096x16_w4096s1p4095_0_w1s1p0_0 h_S_) (broadcastInDim S4096x16 ![] bcast_S_S4096x16 (constant S_ .f32 0x3F800000#32))) (broadcastInDim S4096x16 ![0, 1] bcast_S1x16_S4096x16_0_1 (broadcastInDim S1x16 ![1] bcast_S16_S1x16_1 (Host.reduceAdd (res_main_v32 V0) (constant S_ .f32 0x00000000#32) reducesTo_S4096x16_S16_d0 h_S_)))

set_option maxRecDepth 8192 in
/-- `main_v61`'s composed term of the arguments (named: it is used 3 times). -/
def res_main_v61 (V0 : Valuation τ sig (Elt F)) : (Proc.devRef .tc main_v61 : DevRef τ sig).ty.Contents (Elt F) :=
  mulf (res_main_v32 V0) (uitofp .f32 (cmpf .olt (res_main_v40 V0) (broadcastInDim S4096x16 ![] bcast_S_S4096x16 (constant S_ .f32 0x44000000#32))))

set_option maxRecDepth 8192 in
/-- `main_v65`'s composed term of the arguments (named: it is used 3 times). -/
def res_main_v65 (V0 : Valuation τ sig (Elt F)) : (Proc.devRef .tc main_v65 : DevRef τ sig).ty.Contents (Elt F) :=
  mulf (res_main_v37 V0) (uitofp .f32 (cmpf .olt (res_main_v47 V0) (broadcastInDim S4096x16 ![] bcast_S_S4096x16 (constant S_ .f32 0x44000000#32))))

set_option maxRecDepth 8192 in
/-- `main_v67`'s composed term of the arguments (named: it is used 2 times). -/
def res_main_v67 (V0 : Valuation τ sig (Elt F)) : (Proc.devRef .tc main_v67 : DevRef τ sig).ty.Contents (Elt F) :=
  Host.reduceAdd (mulf (res_main_v30 V0) (res_main_v61 V0)) (constant S_ .f32 0x00000000#32) reducesTo_S4096x16_S4096_d1 h_S_

set_option maxRecDepth 8192 in
/-- `main_v69`'s composed term of the arguments (named: it is used 2 times). -/
def res_main_v69 (V0 : Valuation τ sig (Elt F)) : (Proc.devRef .tc main_v69 : DevRef τ sig).ty.Contents (Elt F) :=
  Host.reduceAdd (mulf (res_main_v30 V0) (res_main_v65 V0)) (constant S_ .f32 0x00000000#32) reducesTo_S4096x16_S4096_d1 h_S_

set_option maxRecDepth 8192 in
/-- `main_v72`'s composed term of the arguments (named: it is used 2 times). -/
def res_main_v72 (V0 : Valuation τ sig (Elt F)) : (Proc.devRef .tc main_v72 : DevRef τ sig).ty.Contents (Elt F) :=
  maximumf (addf (res_main_v67 V0) (res_main_v69 V0)) (broadcastInDim S4096 ![] bcast_S_S4096 (constant S_ .f32 0x34000000#32))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_call0_v0, main_call0_cst, main_call0_v1, main_call0_v2, main_v2, main_cst, main_v3, main_v4, main_v5, main_v6, main_call1_v0, main_call1_cst, main_call1_v1, main_call1_v2, main_v7, main_cst_0, main_v8, main_v9, main_v10, main_v11, main_v12, main_v13, main_v14, main_cst_1, main_v15, main_v16, main_cst_2, main_call2_v0]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
set_option maxRecDepth 8192 in
set_option maxHeartbeats 2000000 in
theorem val0_1_main_v13 (V0 : Valuation τ sig (Elt F)) : val0_1 V0 (no_index (Proc.devRef .tc main_v13)) = res_main_v13 V0 := by
  unfold val0_1
  simp only [ops_part0_0, TRef.binary, TRef.nullary, TRef.unary, TRef.toBuf, TRef.ofBuf, cast_eq]
  after_results_simp
  simp only [val0_main_arg2, val0_main_arg1, val0_main_arg0] <;> rfl
set_option maxRecDepth 8192 in
set_option maxHeartbeats 2000000 in
theorem val0_1_main_v16 (V0 : Valuation τ sig (Elt F)) : val0_1 V0 (no_index (Proc.devRef .tc main_v16)) = res_main_v16 V0 := by
  unfold val0_1
  simp only [ops_part0_0, TRef.binary, TRef.nullary, TRef.unary, TRef.toBuf, TRef.ofBuf, cast_eq]
  after_results_simp
  simp only [val0_main_arg2, val0_main_arg1, val0_main_arg0] <;> rfl
set_option maxRecDepth 8192 in
set_option maxHeartbeats 2000000 in
theorem val0_1_main_call2_v0 (V0 : Valuation τ sig (Elt F)) : val0_1 V0 (no_index (Proc.devRef .tc main_call2_v0)) = id (constant S_ .f32 0x7F800000#32) := by
  unfold val0_1
  simp only [ops_part0_0, TRef.binary, TRef.nullary, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_call2_v1, main_v17, main_cst_3, main_v18, main_call3_v0, main_v19, main_cst_4, main_v20, main_cst_5, main_v21, main_v22, main_v23, main_v24, main_v25, main_v26, main_cst_6, main_v27, main_v28, main_v29, main_v30, main_call4_v0, main_call4_cst, main_call4_c, main_call4_v1_0, main_v31, main_call5_v0, main_call5_v1, main_call5_v2, main_call5_v3, main_call5_v4]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
set_option maxRecDepth 8192 in
set_option maxHeartbeats 2000000 in
theorem val0_2_main_v19 (V0 : Valuation τ sig (Elt F)) : val0_2 V0 (no_index (Proc.devRef .tc main_v19)) = res_main_v19 V0 := by
  unfold val0_2
  simp only [ops_part0_1, TRef.binary, TRef.nullary, TRef.quaternary, TRef.ternary, TRef.unary, TRef.toBuf, TRef.ofBuf, cast_eq]
  after_results_simp
  simp only [val0_1_main_call2_v0, val0_1_main_v13, val0_1_main_v16] <;> rfl
set_option maxRecDepth 8192 in
set_option maxHeartbeats 2000000 in
theorem val0_2_main_v30 (V0 : Valuation τ sig (Elt F)) : val0_2 V0 (no_index (Proc.devRef .tc main_v30)) = res_main_v30 V0 := by
  unfold val0_2
  simp only [ops_part0_1, TRef.binary, TRef.nullary, TRef.quaternary, TRef.ternary, TRef.unary, TRef.toBuf, TRef.ofBuf, cast_eq]
  after_results_simp
  simp only [val0_1_main_call2_v0, val0_1_main_v13, val0_1_main_v16] <;> rfl
set_option maxRecDepth 8192 in
set_option maxHeartbeats 2000000 in
theorem val0_2_main_call5_v4 (V0 : Valuation τ sig (Elt F)) : val0_2 V0 (no_index (Proc.devRef .tc main_call5_v4)) = cmpi .eq (broadcastInDim S4096x16 ![0, 1] bcast_S4096x1_S4096x16_0_1 (broadcastInDim S4096x1 ![0] bcast_S4096_S4096x1_0 ((fun j => (Host.argReduce reducer_argmax_f32_i32 (res_main_v30 V0) (res_main_call4_v0 V0) (res_main_call4_cst V0) (res_main_call4_c V0) reducesTo_S4096x16_S4096_d1 h_S_ j).2)))) (broadcastInDim S4096x16 ![0, 1] bcast_S1x16_S4096x16_0_1 (iotaInDim S1x16 32 1)) := by
  unfold val0_2
  simp only [ops_part0_1, TRef.binary, TRef.nullary, TRef.quaternary, TRef.ternary, TRef.unary, TRef.toBuf, TRef.ofBuf, cast_eq]
  after_results_simp
  simp only [val0_1_main_call2_v0, val0_1_main_v13, val0_1_main_v16] <;> rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_v32, main_cst_7, main_v33, main_v34, main_cst_8, main_call6_v0, main_call6_v1, main_v35, main_call7_v0, main_call7_cst, main_call7_c, main_call7_v1_0, main_v36, main_call8_v0, main_call8_v1, main_call8_v2, main_call8_v3, main_call8_v4, main_v37, main_call9_call0_cst, main_call9_call0_v0, main_v38, main_cst_9, main_v39, main_v40, main_call10_call0_cst, main_call10_call0_v0, main_v41, main_cst_10, main_v42]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
theorem val0_3_main_arg2 (V0 : Valuation τ sig (Elt F)) : val0_3 V0 (no_index (Proc.devRef .tc main_arg2)) = V0 (Proc.devRef .tc main_arg2) :=
  (val0_3_keep V0 main_arg2 (by decide)).trans (val0_2_main_arg2 V0)
theorem val0_3_main_v30 (V0 : Valuation τ sig (Elt F)) : val0_3 V0 (no_index (Proc.devRef .tc main_v30)) = res_main_v30 V0 :=
  (val0_3_keep V0 main_v30 (by decide)).trans (val0_2_main_v30 V0)
set_option maxRecDepth 8192 in
set_option maxHeartbeats 2000000 in
theorem val0_3_main_v32 (V0 : Valuation τ sig (Elt F)) : val0_3 V0 (no_index (Proc.devRef .tc main_v32)) = res_main_v32 V0 := by
  unfold val0_3
  simp only [ops_part0_2, TRef.binary, TRef.nullary, TRef.quaternary, TRef.ternary, TRef.unary, TRef.toBuf, TRef.ofBuf, cast_eq]
  after_results_simp
  simp only [val0_2_main_call5_v4] <;> rfl
set_option maxRecDepth 8192 in
set_option maxHeartbeats 2000000 in
theorem val0_3_main_v37 (V0 : Valuation τ sig (Elt F)) : val0_3 V0 (no_index (Proc.devRef .tc main_v37)) = res_main_v37 V0 := by
  unfold val0_3
  simp only [ops_part0_2, TRef.binary, TRef.nullary, TRef.quaternary, TRef.ternary, TRef.unary, TRef.toBuf, TRef.ofBuf, cast_eq]
  after_results_simp
  simp only [val0_2_main_v19, val0_2_main_call5_v4] <;> rfl
set_option maxRecDepth 8192 in
set_option maxHeartbeats 2000000 in
theorem val0_3_main_v40 (V0 : Valuation τ sig (Elt F)) : val0_3 V0 (no_index (Proc.devRef .tc main_v40)) = res_main_v40 V0 := by
  unfold val0_3
  simp only [ops_part0_2, TRef.binary, TRef.nullary, TRef.quaternary, TRef.ternary, TRef.unary, TRef.toBuf, TRef.ofBuf, cast_eq]
  after_results_simp
  simp only [val0_2_main_call5_v4] <;> rfl
set_option maxRecDepth 8192 in
set_option maxHeartbeats 2000000 in
theorem val0_3_main_v41 (V0 : Valuation τ sig (Elt F)) : val0_3 V0 (no_index (Proc.devRef .tc main_v41)) = Host.reduceWindowAdd ![4096, 1] ![1, 1] ![4095, 0] ![0, 0] (res_main_v37 V0) (broadcastInDim S_ ![] bcast_S_S_ (constant S_ .f32 0x00000000#32)) reduceWindows_S4096x16_S4096x16_w4096s1p4095_0_w1s1p0_0 h_S_ := by
  unfold val0_3
  simp only [ops_part0_2, TRef.binary, TRef.nullary, TRef.quaternary, TRef.ternary, TRef.unary, TRef.toBuf, TRef.ofBuf, cast_eq]
  after_results_simp
  simp only [val0_2_main_v19, val0_2_main_call5_v4] <;> rfl
set_option maxRecDepth 8192 in
set_option maxHeartbeats 2000000 in
theorem val0_3_main_v42 (V0 : Valuation τ sig (Elt F)) : val0_3 V0 (no_index (Proc.devRef .tc main_v42)) = broadcastInDim S4096x16 ![] bcast_S_S4096x16 (constant S_ .f32 0x3F800000#32) := by
  unfold val0_3
  simp only [ops_part0_2, TRef.binary, TRef.nullary, TRef.quaternary, TRef.ternary, TRef.unary, TRef.toBuf, TRef.ofBuf, cast_eq]
  after_results_simp
  all_goals rfl

/-- The device's buffer contents after @main's first 1 window. -/
def val1 (V0 : Valuation τ sig (Elt F)) : Valuation τ sig (Elt F) := after ops_part0_3 (val0_3 V0)
/-- The buffers that window `ops_part0_3`'s operations write. -/
abbrev ops_part0_3_W : List (Ref sig .tc) := [main_v43, main_cst_11, main_v44, main_v45, main_v46]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_3` does not write keeps its contents through it. -/
theorem val1_keep (V0 : Valuation τ sig (Elt F)) (r : Ref sig .tc) (h : r ∉ ops_part0_3_W) :
    val1 V0 (Proc.devRef .tc r) = val0_3 V0 (Proc.devRef .tc r) :=
  after_of_writes_sub ops_part0_3 _ ops_part0_3_writes h
theorem val1_main_arg0 (V0 : Valuation τ sig (Elt F)) : val1 V0 (no_index (Proc.devRef .tc main_arg0)) = V0 (Proc.devRef .tc main_arg0) :=
  (val1_keep V0 main_arg0 (by decide)).trans (val0_3_main_arg0 V0)
theorem val1_main_arg1 (V0 : Valuation τ sig (Elt F)) : val1 V0 (no_index (Proc.devRef .tc main_arg1)) = V0 (Proc.devRef .tc main_arg1) :=
  (val1_keep V0 main_arg1 (by decide)).trans (val0_3_main_arg1 V0)
theorem val1_main_arg2 (V0 : Valuation τ sig (Elt F)) : val1 V0 (no_index (Proc.devRef .tc main_arg2)) = V0 (Proc.devRef .tc main_arg2) :=
  (val1_keep V0 main_arg2 (by decide)).trans (val0_3_main_arg2 V0)
theorem val1_main_v30 (V0 : Valuation τ sig (Elt F)) : val1 V0 (no_index (Proc.devRef .tc main_v30)) = res_main_v30 V0 :=
  (val1_keep V0 main_v30 (by decide)).trans (val0_3_main_v30 V0)
theorem val1_main_v32 (V0 : Valuation τ sig (Elt F)) : val1 V0 (no_index (Proc.devRef .tc main_v32)) = res_main_v32 V0 :=
  (val1_keep V0 main_v32 (by decide)).trans (val0_3_main_v32 V0)
theorem val1_main_v37 (V0 : Valuation τ sig (Elt F)) : val1 V0 (no_index (Proc.devRef .tc main_v37)) = res_main_v37 V0 :=
  (val1_keep V0 main_v37 (by decide)).trans (val0_3_main_v37 V0)
theorem val1_main_v40 (V0 : Valuation τ sig (Elt F)) : val1 V0 (no_index (Proc.devRef .tc main_v40)) = res_main_v40 V0 :=
  (val1_keep V0 main_v40 (by decide)).trans (val0_3_main_v40 V0)
set_option maxRecDepth 8192 in
theorem val1_main_v43 (V0 : Valuation τ sig (Elt F)) : val1 V0 (no_index (Proc.devRef .tc main_v43)) = subf (Host.reduceWindowAdd ![4096, 1] ![1, 1] ![4095, 0] ![0, 0] (res_main_v37 V0) (broadcastInDim S_ ![] bcast_S_S_ (constant S_ .f32 0x00000000#32)) reduceWindows_S4096x16_S4096x16_w4096s1p4095_0_w1s1p0_0 h_S_) (broadcastInDim S4096x16 ![] bcast_S_S4096x16 (constant S_ .f32 0x3F800000#32)) := by
  unfold val1
  simp only [ops_part0_3]
  after_results_simp
  simp only [val0_3_main_v42, val0_3_main_v41] <;> rfl
set_option maxRecDepth 8192 in
theorem val1_main_v46 (V0 : Valuation τ sig (Elt F)) : val1 V0 (no_index (Proc.devRef .tc main_v46)) = broadcastInDim S4096x16 ![0, 1] bcast_S1x16_S4096x16_0_1 (broadcastInDim S1x16 ![1] bcast_S16_S1x16_1 (Host.reduceAdd (res_main_v32 V0) (constant S_ .f32 0x00000000#32) reducesTo_S4096x16_S16_d0 h_S_)) := by
  unfold val1
  simp only [ops_part0_3]
  after_results_simp
  simp only [val0_3_main_v32] <;> rfl

/-- The device's buffer contents after @main's first 125 operations. -/
def val1_1 (V0 : Valuation τ sig (Elt F)) : Valuation τ sig (Elt F) := after ops_part1_0 (val1 V0)
/-- The buffers that window `ops_part1_0`'s operations write. -/
abbrev ops_part1_0_W : List (Ref sig .tc) := [main_v47, main_cst_12, main_v48, main_cst_13, main_v49, main_v50, main_cst_14, main_v51, main_cst_15, main_v52, main_v53, main_v54, main_cst_16, main_v55, main_cst_17, main_v56, main_cst_18, main_v57, main_cst_19, main_v58, main_v59, main_v60, main_v61, main_cst_20, main_v62, main_v63, main_v64, main_v65, main_v66, main_cst_21]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_arg2 (V0 : Valuation τ sig (Elt F)) : val1_1 V0 (no_index (Proc.devRef .tc main_arg2)) = V0 (Proc.devRef .tc main_arg2) :=
  (val1_1_keep V0 main_arg2 (by decide)).trans (val1_main_arg2 V0)
theorem val1_1_main_v30 (V0 : Valuation τ sig (Elt F)) : val1_1 V0 (no_index (Proc.devRef .tc main_v30)) = res_main_v30 V0 :=
  (val1_1_keep V0 main_v30 (by decide)).trans (val1_main_v30 V0)
theorem val1_1_main_v40 (V0 : Valuation τ sig (Elt F)) : val1_1 V0 (no_index (Proc.devRef .tc main_v40)) = res_main_v40 V0 :=
  (val1_1_keep V0 main_v40 (by decide)).trans (val1_main_v40 V0)
set_option maxRecDepth 8192 in
set_option maxHeartbeats 2000000 in
theorem val1_1_main_v47 (V0 : Valuation τ sig (Elt F)) : val1_1 V0 (no_index (Proc.devRef .tc main_v47)) = res_main_v47 V0 := by
  unfold val1_1
  simp only [ops_part1_0]
  after_results_simp
  simp only [val1_main_v46, val1_main_v43] <;> rfl
set_option maxRecDepth 8192 in
set_option maxHeartbeats 2000000 in
theorem val1_1_main_v57 (V0 : Valuation τ sig (Elt F)) : val1_1 V0 (no_index (Proc.devRef .tc main_v57)) = mulf (Host.divf (Host.reduceAdd (mulf (Host.divf (Host.reduceAdd (res_main_v30 V0) (constant S_ .f32 0x00000000#32) reducesTo_S4096x16_S16_d0 h_S_) (broadcastInDim S16 ![] bcast_S_S16 (constant S_ .f32 0x45800000#32))) (Host.divf (Host.reduceAdd (res_main_v32 V0) (constant S_ .f32 0x00000000#32) reducesTo_S4096x16_S16_d0 h_S_) (broadcastInDim S16 ![] bcast_S_S16 (constant S_ .f32 0x45800000#32)))) (constant S_ .f32 0x00000000#32) reducesTo_S16_S_d0 h_S_) (constant S_ .f32 0x41800000#32)) (constant S_ .f32 0x43800000#32) := by
  unfold val1_1
  simp only [ops_part1_0]
  after_results_simp
  simp only [val1_main_v32, val1_main_v30] <;> rfl
set_option maxRecDepth 8192 in
set_option maxHeartbeats 2000000 in
theorem val1_1_main_v61 (V0 : Valuation τ sig (Elt F)) : val1_1 V0 (no_index (Proc.devRef .tc main_v61)) = res_main_v61 V0 := by
  unfold val1_1
  simp only [ops_part1_0]
  after_results_simp
  simp only [val1_main_v40, val1_main_v32] <;> rfl
set_option maxRecDepth 8192 in
set_option maxHeartbeats 2000000 in
theorem val1_1_main_v65 (V0 : Valuation τ sig (Elt F)) : val1_1 V0 (no_index (Proc.devRef .tc main_v65)) = res_main_v65 V0 := by
  unfold val1_1
  simp only [ops_part1_0]
  after_results_simp
  simp only [val1_main_v46, val1_main_v43, val1_main_v37] <;> rfl
set_option maxRecDepth 8192 in
set_option maxHeartbeats 2000000 in
theorem val1_1_main_v66 (V0 : Valuation τ sig (Elt F)) : val1_1 V0 (no_index (Proc.devRef .tc main_v66)) = mulf (res_main_v30 V0) (res_main_v61 V0) := by
  unfold val1_1
  simp only [ops_part1_0]
  after_results_simp
  simp only [val1_main_v40, val1_main_v32, val1_main_v30] <;> rfl
set_option maxRecDepth 8192 in
set_option maxHeartbeats 2000000 in
theorem val1_1_main_cst_21 (V0 : Valuation τ sig (Elt F)) : val1_1 V0 (no_index (Proc.devRef .tc main_cst_21)) = constant S_ .f32 0x00000000#32 := by
  unfold val1_1
  simp only [ops_part1_0]
  after_results_simp
  all_goals rfl

/-- The device's buffer contents after @main's first 155 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v67, main_v68, main_cst_22, main_v69, main_v70, main_cst_23, main_v71, main_v72, main_v73, main_v74, main_v75, main_cst_24, main_v76, main_v77, main_v78, main_cst_25, main_v79, main_v80, main_v81, main_v82, main_v83, main_v84, main_v85, main_v86, main_call11_v0, main_call11_v1, main_call11_v2, main_call11_v3, main_call11_v4, main_v87]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_arg2 (V0 : Valuation τ sig (Elt F)) : val1_2 V0 (no_index (Proc.devRef .tc main_arg2)) = V0 (Proc.devRef .tc main_arg2) :=
  (val1_2_keep V0 main_arg2 (by decide)).trans (val1_1_main_arg2 V0)
theorem val1_2_main_v57 (V0 : Valuation τ sig (Elt F)) : val1_2 V0 (no_index (Proc.devRef .tc main_v57)) = mulf (Host.divf (Host.reduceAdd (mulf (Host.divf (Host.reduceAdd (res_main_v30 V0) (constant S_ .f32 0x00000000#32) reducesTo_S4096x16_S16_d0 h_S_) (broadcastInDim S16 ![] bcast_S_S16 (constant S_ .f32 0x45800000#32))) (Host.divf (Host.reduceAdd (res_main_v32 V0) (constant S_ .f32 0x00000000#32) reducesTo_S4096x16_S16_d0 h_S_) (broadcastInDim S16 ![] bcast_S_S16 (constant S_ .f32 0x45800000#32)))) (constant S_ .f32 0x00000000#32) reducesTo_S16_S_d0 h_S_) (constant S_ .f32 0x41800000#32)) (constant S_ .f32 0x43800000#32) :=
  (val1_2_keep V0 main_v57 (by decide)).trans (val1_1_main_v57 V0)
set_option maxRecDepth 8192 in
set_option maxHeartbeats 2000000 in
theorem val1_2_main_v80 (V0 : Valuation τ sig (Elt F)) : val1_2 V0 (no_index (Proc.devRef .tc main_v80)) = fptosi 32 (Host.reduceAdd (mulf (res_main_v47 V0) (res_main_v65 V0)) (constant S_ .f32 0x00000000#32) reducesTo_S4096x16_S4096_d1 h_S_) := by
  unfold val1_2
  simp only [ops_part1_1, TRef.binary, TRef.nullary, TRef.unary, TRef.toBuf, TRef.ofBuf, cast_eq]
  after_results_simp
  simp only [val1_1_main_v65, val1_1_main_v47] <;> rfl
set_option maxRecDepth 8192 in
set_option maxHeartbeats 2000000 in
theorem val1_2_main_v83 (V0 : Valuation τ sig (Elt F)) : val1_2 V0 (no_index (Proc.devRef .tc main_v83)) = mulf (broadcastInDim S4096x16 ![0, 1] bcast_S4096x1_S4096x16_0_1 (broadcastInDim S4096x1 ![0] bcast_S4096_S4096x1_0 (Host.divf (res_main_v67 V0) (res_main_v72 V0)))) (res_main_v61 V0) := by
  unfold val1_2
  simp only [ops_part1_1, TRef.binary, TRef.nullary, TRef.unary, TRef.toBuf, TRef.ofBuf, cast_eq]
  after_results_simp
  simp only [val1_1_main_v61, val1_1_main_v65, val1_1_main_v30, val1_1_main_cst_21, val1_1_main_v66] <;> rfl
set_option maxRecDepth 8192 in
set_option maxHeartbeats 2000000 in
theorem val1_2_main_v86 (V0 : Valuation τ sig (Elt F)) : val1_2 V0 (no_index (Proc.devRef .tc main_v86)) = mulf (broadcastInDim S4096x16 ![0, 1] bcast_S4096x1_S4096x16_0_1 (broadcastInDim S4096x1 ![0] bcast_S4096_S4096x1_0 (Host.divf (res_main_v69 V0) (res_main_v72 V0)))) (res_main_v65 V0) := by
  unfold val1_2
  simp only [ops_part1_1, TRef.binary, TRef.nullary, TRef.unary, TRef.toBuf, TRef.ofBuf, cast_eq]
  after_results_simp
  simp only [val1_1_main_v65, val1_1_main_cst_21, val1_1_main_v66, val1_1_main_v30] <;> rfl
set_option maxRecDepth 8192 in
set_option maxHeartbeats 2000000 in
theorem val1_2_main_v87 (V0 : Valuation τ sig (Elt F)) : val1_2 V0 (no_index (Proc.devRef .tc main_v87)) = uitofp .f32 (cmpi .eq (broadcastInDim S4096x512 ![0, 1] bcast_S4096x1_S4096x512_0_1 (broadcastInDim S4096x1 ![0] bcast_S4096_S4096x1_0 (fptosi 32 (Host.reduceAdd (mulf (res_main_v40 V0) (res_main_v61 V0)) (constant S_ .f32 0x00000000#32) reducesTo_S4096x16_S4096_d1 h_S_)))) (broadcastInDim S4096x512 ![0, 1] bcast_S1x512_S4096x512_0_1 (iotaInDim S1x512 32 1))) := by
  unfold val1_2
  simp only [ops_part1_1, TRef.binary, TRef.nullary, TRef.unary, TRef.toBuf, TRef.ofBuf, cast_eq]
  after_results_simp
  simp only [val1_1_main_v61, val1_1_main_v40] <;> rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_call12_v0, main_call12_v1, main_call12_v2, main_call12_v3, main_call12_v4, main_v88, main_v89, main_v90, main_v91, main_v92]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_arg2 (V0 : Valuation τ sig (Elt F)) : val2 V0 (no_index (Proc.devRef .tc main_arg2)) = V0 (Proc.devRef .tc main_arg2) :=
  (val2_keep V0 main_arg2 (by decide)).trans (val1_2_main_arg2 V0)
theorem val2_main_v57 (V0 : Valuation τ sig (Elt F)) : val2 V0 (no_index (Proc.devRef .tc main_v57)) = mulf (Host.divf (Host.reduceAdd (mulf (Host.divf (Host.reduceAdd (res_main_v30 V0) (constant S_ .f32 0x00000000#32) reducesTo_S4096x16_S16_d0 h_S_) (broadcastInDim S16 ![] bcast_S_S16 (constant S_ .f32 0x45800000#32))) (Host.divf (Host.reduceAdd (res_main_v32 V0) (constant S_ .f32 0x00000000#32) reducesTo_S4096x16_S16_d0 h_S_) (broadcastInDim S16 ![] bcast_S_S16 (constant S_ .f32 0x45800000#32)))) (constant S_ .f32 0x00000000#32) reducesTo_S16_S_d0 h_S_) (constant S_ .f32 0x41800000#32)) (constant S_ .f32 0x43800000#32) :=
  (val2_keep V0 main_v57 (by decide)).trans (val1_2_main_v57 V0)
theorem val2_main_v86 (V0 : Valuation τ sig (Elt F)) : val2 V0 (no_index (Proc.devRef .tc main_v86)) = mulf (broadcastInDim S4096x16 ![0, 1] bcast_S4096x1_S4096x16_0_1 (broadcastInDim S4096x1 ![0] bcast_S4096_S4096x1_0 (Host.divf (res_main_v69 V0) (res_main_v72 V0)))) (res_main_v65 V0) :=
  (val2_keep V0 main_v86 (by decide)).trans (val1_2_main_v86 V0)
set_option maxRecDepth 8192 in
set_option maxHeartbeats 1000000 in
theorem val2_main_v88 (V0 : Valuation τ sig (Elt F)) : val2 V0 (no_index (Proc.devRef .tc main_v88)) = uitofp .f32 (cmpi .eq (broadcastInDim S4096x512 ![0, 1] bcast_S4096x1_S4096x512_0_1 (broadcastInDim S4096x1 ![0] bcast_S4096_S4096x1_0 (fptosi 32 (Host.reduceAdd (mulf (res_main_v47 V0) (res_main_v65 V0)) (constant S_ .f32 0x00000000#32) reducesTo_S4096x16_S4096_d1 h_S_)))) (broadcastInDim S4096x512 ![0, 1] bcast_S1x512_S4096x512_0_1 (iotaInDim S1x512 32 1))) := by
  unfold val2
  simp only [ops_part1_2, TRef.binary, TRef.nullary, TRef.unary, TRef.toBuf, TRef.ofBuf, cast_eq]
  after_results_simp
  simp only [val1_2_main_v80] <;> rfl
set_option maxRecDepth 8192 in
set_option maxHeartbeats 1000000 in
theorem val2_main_v91 (V0 : Valuation τ sig (Elt F)) : val2 V0 (no_index (Proc.devRef .tc main_v91)) = broadcastInDim S4096x16x512 ![0, 1, 2] bcast_S4096x16x1_S4096x16x512_0_1_2 (broadcastInDim S4096x16x1 ![0, 1] bcast_S4096x16_S4096x16x1_0_1 (mulf (broadcastInDim S4096x16 ![0, 1] bcast_S4096x1_S4096x16_0_1 (broadcastInDim S4096x1 ![0] bcast_S4096_S4096x1_0 (Host.divf (res_main_v67 V0) (res_main_v72 V0)))) (res_main_v61 V0))) := by
  unfold val2
  simp only [ops_part1_2, TRef.binary, TRef.nullary, TRef.unary, TRef.toBuf, TRef.ofBuf, cast_eq]
  after_results_simp
  simp only [val1_2_main_v83] <;> rfl
set_option maxRecDepth 8192 in
set_option maxHeartbeats 1000000 in
theorem val2_main_v92 (V0 : Valuation τ sig (Elt F)) : val2 V0 (no_index (Proc.devRef .tc main_v92)) = broadcastInDim S4096x16x512 ![0, 1, 2] bcast_S4096x1x512_S4096x16x512_0_1_2 (broadcastInDim S4096x1x512 ![0, 2] bcast_S4096x512_S4096x1x512_0_2 (uitofp .f32 (cmpi .eq (broadcastInDim S4096x512 ![0, 1] bcast_S4096x1_S4096x512_0_1 (broadcastInDim S4096x1 ![0] bcast_S4096_S4096x1_0 (fptosi 32 (Host.reduceAdd (mulf (res_main_v40 V0) (res_main_v61 V0)) (constant S_ .f32 0x00000000#32) reducesTo_S4096x16_S4096_d1 h_S_)))) (broadcastInDim S4096x512 ![0, 1] bcast_S1x512_S4096x512_0_1 (iotaInDim S1x512 32 1))))) := by
  unfold val2
  simp only [ops_part1_2, TRef.binary, TRef.nullary, TRef.unary, TRef.toBuf, TRef.ofBuf, cast_eq]
  after_results_simp
  simp only [val1_2_main_v87] <;> rfl

/-- The device's buffer contents after @main's first 3 windows. -/
def val3 (V0 : Valuation τ sig (Elt F)) : Valuation τ sig (Elt F) := after ops_part2 (val2 V0)
/-- The buffers that window `main_part2`'s operations write. -/
abbrev ops_part2_W : List (Ref sig .tc) := [main_v93, main_v94, main_v95, main_v96, main_v97, main_v98, main_v99, main_cst_26, main_v100, main_v101]
set_option maxRecDepth 8192 in
theorem ops_part2_writes : (ops_part2 : List (HloOp τ sig (Elt F))).Forall fun op => op.writes ⊆ (ops_part2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part2` does not write keeps its contents through it. -/
theorem val3_keep (V0 : Valuation τ sig (Elt F)) (r : Ref sig .tc) (h : r ∉ ops_part2_W) :
    val3 V0 (Proc.devRef .tc r) = val2 V0 (Proc.devRef .tc r) :=
  after_of_writes_sub ops_part2 _ ops_part2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_v57 (V0 : Valuation τ sig (Elt F)) : val3 V0 (no_index (Proc.devRef .tc main_v57)) = mulf (Host.divf (Host.reduceAdd (mulf (Host.divf (Host.reduceAdd (res_main_v30 V0) (constant S_ .f32 0x00000000#32) reducesTo_S4096x16_S16_d0 h_S_) (broadcastInDim S16 ![] bcast_S_S16 (constant S_ .f32 0x45800000#32))) (Host.divf (Host.reduceAdd (res_main_v32 V0) (constant S_ .f32 0x00000000#32) reducesTo_S4096x16_S16_d0 h_S_) (broadcastInDim S16 ![] bcast_S_S16 (constant S_ .f32 0x45800000#32)))) (constant S_ .f32 0x00000000#32) reducesTo_S16_S_d0 h_S_) (constant S_ .f32 0x41800000#32)) (constant S_ .f32 0x43800000#32) :=
  (val3_keep V0 main_v57 (by decide)).trans (val2_main_v57 V0)
set_option maxRecDepth 8192 in
set_option maxHeartbeats 1000000 in
theorem val3_main_v99 (V0 : Valuation τ sig (Elt F)) : val3 V0 (no_index (Proc.devRef .tc main_v99)) = addf (mulf (broadcastInDim S4096x16x512 ![0, 1, 2] bcast_S4096x16x1_S4096x16x512_0_1_2 (broadcastInDim S4096x16x1 ![0, 1] bcast_S4096x16_S4096x16x1_0_1 (mulf (broadcastInDim S4096x16 ![0, 1] bcast_S4096x1_S4096x16_0_1 (broadcastInDim S4096x1 ![0] bcast_S4096_S4096x1_0 (Host.divf (res_main_v67 V0) (res_main_v72 V0)))) (res_main_v61 V0)))) (broadcastInDim S4096x16x512 ![0, 1, 2] bcast_S4096x1x512_S4096x16x512_0_1_2 (broadcastInDim S4096x1x512 ![0, 2] bcast_S4096x512_S4096x1x512_0_2 (uitofp .f32 (cmpi .eq (broadcastInDim S4096x512 ![0, 1] bcast_S4096x1_S4096x512_0_1 (broadcastInDim S4096x1 ![0] bcast_S4096_S4096x1_0 (fptosi 32 (Host.reduceAdd (mulf (res_main_v40 V0) (res_main_v61 V0)) (constant S_ .f32 0x00000000#32) reducesTo_S4096x16_S4096_d1 h_S_)))) (broadcastInDim S4096x512 ![0, 1] bcast_S1x512_S4096x512_0_1 (iotaInDim S1x512 32 1))))))) (mulf (broadcastInDim S4096x16x512 ![0, 1, 2] bcast_S4096x16x1_S4096x16x512_0_1_2 (broadcastInDim S4096x16x1 ![0, 1] bcast_S4096x16_S4096x16x1_0_1 (mulf (broadcastInDim S4096x16 ![0, 1] bcast_S4096x1_S4096x16_0_1 (broadcastInDim S4096x1 ![0] bcast_S4096_S4096x1_0 (Host.divf (res_main_v69 V0) (res_main_v72 V0)))) (res_main_v65 V0)))) (broadcastInDim S4096x16x512 ![0, 1, 2] bcast_S4096x1x512_S4096x16x512_0_1_2 (broadcastInDim S4096x1x512 ![0, 2] bcast_S4096x512_S4096x1x512_0_2 (uitofp .f32 (cmpi .eq (broadcastInDim S4096x512 ![0, 1] bcast_S4096x1_S4096x512_0_1 (broadcastInDim S4096x1 ![0] bcast_S4096_S4096x1_0 (fptosi 32 (Host.reduceAdd (mulf (res_main_v47 V0) (res_main_v65 V0)) (constant S_ .f32 0x00000000#32) reducesTo_S4096x16_S4096_d1 h_S_)))) (broadcastInDim S4096x512 ![0, 1] bcast_S1x512_S4096x512_0_1 (iotaInDim S1x512 32 1))))))) := by
  unfold val3
  simp only [ops_part2]
  after_results_simp
  simp only [val2_main_v88, val2_main_v86, val2_main_v92, val2_main_v91] <;> rfl
set_option maxRecDepth 8192 in
set_option maxHeartbeats 1000000 in
theorem val3_main_v101 (V0 : Valuation τ sig (Elt F)) : val3 V0 (no_index (Proc.devRef .tc main_v101)) = cmpf .une (addf (mulf (broadcastInDim S4096x16x512 ![0, 1, 2] bcast_S4096x16x1_S4096x16x512_0_1_2 (broadcastInDim S4096x16x1 ![0, 1] bcast_S4096x16_S4096x16x1_0_1 (mulf (broadcastInDim S4096x16 ![0, 1] bcast_S4096x1_S4096x16_0_1 (broadcastInDim S4096x1 ![0] bcast_S4096_S4096x1_0 (Host.divf (res_main_v67 V0) (res_main_v72 V0)))) (res_main_v61 V0)))) (broadcastInDim S4096x16x512 ![0, 1, 2] bcast_S4096x1x512_S4096x16x512_0_1_2 (broadcastInDim S4096x1x512 ![0, 2] bcast_S4096x512_S4096x1x512_0_2 (uitofp .f32 (cmpi .eq (broadcastInDim S4096x512 ![0, 1] bcast_S4096x1_S4096x512_0_1 (broadcastInDim S4096x1 ![0] bcast_S4096_S4096x1_0 (fptosi 32 (Host.reduceAdd (mulf (res_main_v40 V0) (res_main_v61 V0)) (constant S_ .f32 0x00000000#32) reducesTo_S4096x16_S4096_d1 h_S_)))) (broadcastInDim S4096x512 ![0, 1] bcast_S1x512_S4096x512_0_1 (iotaInDim S1x512 32 1))))))) (mulf (broadcastInDim S4096x16x512 ![0, 1, 2] bcast_S4096x16x1_S4096x16x512_0_1_2 (broadcastInDim S4096x16x1 ![0, 1] bcast_S4096x16_S4096x16x1_0_1 (mulf (broadcastInDim S4096x16 ![0, 1] bcast_S4096x1_S4096x16_0_1 (broadcastInDim S4096x1 ![0] bcast_S4096_S4096x1_0 (Host.divf (res_main_v69 V0) (res_main_v72 V0)))) (res_main_v65 V0)))) (broadcastInDim S4096x16x512 ![0, 1, 2] bcast_S4096x1x512_S4096x16x512_0_1_2 (broadcastInDim S4096x1x512 ![0, 2] bcast_S4096x512_S4096x1x512_0_2 (uitofp .f32 (cmpi .eq (broadcastInDim S4096x512 ![0, 1] bcast_S4096x1_S4096x512_0_1 (broadcastInDim S4096x1 ![0] bcast_S4096_S4096x1_0 (fptosi 32 (Host.reduceAdd (mulf (res_main_v47 V0) (res_main_v65 V0)) (constant S_ .f32 0x00000000#32) reducesTo_S4096x16_S4096_d1 h_S_)))) (broadcastInDim S4096x512 ![0, 1] bcast_S1x512_S4096x512_0_1 (iotaInDim S1x512 32 1)))))))) (broadcastInDim S4096x16x512 ![] bcast_S_S4096x16x512 (constant S_ .f32 0x00000000#32)) := by
  unfold val3
  simp only [ops_part2]
  after_results_simp
  simp only [val2_main_v88, val2_main_v86, val2_main_v92, val2_main_v91] <;> rfl

theorem after_ops (V0 : Valuation τ sig (Elt F)) : after ops V0 = val3 V0 := by
  simp only [ops, ops_part0, ops_part1, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = mulf (Host.divf (Host.reduceAdd (mulf (Host.divf (Host.reduceAdd (res_main_v30 (launchContents m c)) (constant S_ .f32 0x00000000#32) reducesTo_S4096x16_S16_d0 h_S_) (broadcastInDim S16 ![] bcast_S_S16 (constant S_ .f32 0x45800000#32))) (Host.divf (Host.reduceAdd (res_main_v32 (launchContents m c)) (constant S_ .f32 0x00000000#32) reducesTo_S4096x16_S16_d0 h_S_) (broadcastInDim S16 ![] bcast_S_S16 (constant S_ .f32 0x45800000#32)))) (constant S_ .f32 0x00000000#32) reducesTo_S16_S_d0 h_S_) (constant S_ .f32 0x41800000#32)) (constant S_ .f32 0x43800000#32)
      ∧ r.2.mem ((c.tc : Thread nD τ).loc main_v99) = addf (mulf (broadcastInDim S4096x16x512 ![0, 1, 2] bcast_S4096x16x1_S4096x16x512_0_1_2 (broadcastInDim S4096x16x1 ![0, 1] bcast_S4096x16_S4096x16x1_0_1 (mulf (broadcastInDim S4096x16 ![0, 1] bcast_S4096x1_S4096x16_0_1 (broadcastInDim S4096x1 ![0] bcast_S4096_S4096x1_0 (Host.divf (res_main_v67 (launchContents m c)) (res_main_v72 (launchContents m c))))) (res_main_v61 (launchContents m c))))) (broadcastInDim S4096x16x512 ![0, 1, 2] bcast_S4096x1x512_S4096x16x512_0_1_2 (broadcastInDim S4096x1x512 ![0, 2] bcast_S4096x512_S4096x1x512_0_2 (uitofp .f32 (cmpi .eq (broadcastInDim S4096x512 ![0, 1] bcast_S4096x1_S4096x512_0_1 (broadcastInDim S4096x1 ![0] bcast_S4096_S4096x1_0 (fptosi 32 (Host.reduceAdd (mulf (res_main_v40 (launchContents m c)) (res_main_v61 (launchContents m c))) (constant S_ .f32 0x00000000#32) reducesTo_S4096x16_S4096_d1 h_S_)))) (broadcastInDim S4096x512 ![0, 1] bcast_S1x512_S4096x512_0_1 (iotaInDim S1x512 32 1))))))) (mulf (broadcastInDim S4096x16x512 ![0, 1, 2] bcast_S4096x16x1_S4096x16x512_0_1_2 (broadcastInDim S4096x16x1 ![0, 1] bcast_S4096x16_S4096x16x1_0_1 (mulf (broadcastInDim S4096x16 ![0, 1] bcast_S4096x1_S4096x16_0_1 (broadcastInDim S4096x1 ![0] bcast_S4096_S4096x1_0 (Host.divf (res_main_v69 (launchContents m c)) (res_main_v72 (launchContents m c))))) (res_main_v65 (launchContents m c))))) (broadcastInDim S4096x16x512 ![0, 1, 2] bcast_S4096x1x512_S4096x16x512_0_1_2 (broadcastInDim S4096x1x512 ![0, 2] bcast_S4096x512_S4096x1x512_0_2 (uitofp .f32 (cmpi .eq (broadcastInDim S4096x512 ![0, 1] bcast_S4096x1_S4096x512_0_1 (broadcastInDim S4096x1 ![0] bcast_S4096_S4096x1_0 (fptosi 32 (Host.reduceAdd (mulf (res_main_v47 (launchContents m c)) (res_main_v65 (launchContents m c))) (constant S_ .f32 0x00000000#32) reducesTo_S4096x16_S4096_d1 h_S_)))) (broadcastInDim S4096x512 ![0, 1] bcast_S1x512_S4096x512_0_1 (iotaInDim S1x512 32 1)))))))
      ∧ r.2.mem ((c.tc : Thread nD τ).loc main_v101) = cmpf .une (addf (mulf (broadcastInDim S4096x16x512 ![0, 1, 2] bcast_S4096x16x1_S4096x16x512_0_1_2 (broadcastInDim S4096x16x1 ![0, 1] bcast_S4096x16_S4096x16x1_0_1 (mulf (broadcastInDim S4096x16 ![0, 1] bcast_S4096x1_S4096x16_0_1 (broadcastInDim S4096x1 ![0] bcast_S4096_S4096x1_0 (Host.divf (res_main_v67 (launchContents m c)) (res_main_v72 (launchContents m c))))) (res_main_v61 (launchContents m c))))) (broadcastInDim S4096x16x512 ![0, 1, 2] bcast_S4096x1x512_S4096x16x512_0_1_2 (broadcastInDim S4096x1x512 ![0, 2] bcast_S4096x512_S4096x1x512_0_2 (uitofp .f32 (cmpi .eq (broadcastInDim S4096x512 ![0, 1] bcast_S4096x1_S4096x512_0_1 (broadcastInDim S4096x1 ![0] bcast_S4096_S4096x1_0 (fptosi 32 (Host.reduceAdd (mulf (res_main_v40 (launchContents m c)) (res_main_v61 (launchContents m c))) (constant S_ .f32 0x00000000#32) reducesTo_S4096x16_S4096_d1 h_S_)))) (broadcastInDim S4096x512 ![0, 1] bcast_S1x512_S4096x512_0_1 (iotaInDim S1x512 32 1))))))) (mulf (broadcastInDim S4096x16x512 ![0, 1, 2] bcast_S4096x16x1_S4096x16x512_0_1_2 (broadcastInDim S4096x16x1 ![0, 1] bcast_S4096x16_S4096x16x1_0_1 (mulf (broadcastInDim S4096x16 ![0, 1] bcast_S4096x1_S4096x16_0_1 (broadcastInDim S4096x1 ![0] bcast_S4096_S4096x1_0 (Host.divf (res_main_v69 (launchContents m c)) (res_main_v72 (launchContents m c))))) (res_main_v65 (launchContents m c))))) (broadcastInDim S4096x16x512 ![0, 1, 2] bcast_S4096x1x512_S4096x16x512_0_1_2 (broadcastInDim S4096x1x512 ![0, 2] bcast_S4096x512_S4096x1x512_0_2 (uitofp .f32 (cmpi .eq (broadcastInDim S4096x512 ![0, 1] bcast_S4096x1_S4096x512_0_1 (broadcastInDim S4096x1 ![0] bcast_S4096_S4096x1_0 (fptosi 32 (Host.reduceAdd (mulf (res_main_v47 (launchContents m c)) (res_main_v65 (launchContents m c))) (constant S_ .f32 0x00000000#32) reducesTo_S4096x16_S4096_d1 h_S_)))) (broadcastInDim S4096x512 ![0, 1] bcast_S1x512_S4096x512_0_1 (iotaInDim S1x512 32 1)))))))) (broadcastInDim S4096x16x512 ![] bcast_S_S4096x16x512 (constant S_ .f32 0x00000000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v57).trans ((congrFun (after_ops (launchContents m c)) (Proc.devRef .tc main_v57)).trans (val3_main_v57 (launchContents m c))),
      (h c main_v99).trans ((congrFun (after_ops (launchContents m c)) (Proc.devRef .tc main_v99)).trans (val3_main_v99 (launchContents m c))),
      (h c main_v101).trans ((congrFun (after_ops (launchContents m c)) (Proc.devRef .tc main_v101)).trans (val3_main_v101 (launchContents m c))),
      (h c main_arg0).trans ((congrFun (after_ops (launchContents m c)) (Proc.devRef .tc main_arg0)).trans (val3_main_arg0 (launchContents m c))),
      (h c main_arg1).trans ((congrFun (after_ops (launchContents m c)) (Proc.devRef .tc main_arg1)).trans (val3_main_arg1 (launchContents m c))),
      (h c main_arg2).trans ((congrFun (after_ops (launchContents m c)) (Proc.devRef .tc main_arg2)).trans (val3_main_arg2 (launchContents m c)))⟩)
    (run_seq scopedRefs_eq scopedSems_eq defs main (fun _ => ops) main_eq (fun _ => ops_sub) m ρ fun _ => ops_fresh)

end Cert.ReferenceIdeal.Value

end
-- ==== Proof.Ref.Frame.lean ====
/-
  The frame of the reference: it terminates, its arguments end unchanged, and every semaphore counter is zero, because it
  declares no semaphore.
-/
module

public import proofs.«01_k».proof.Proof.Ref.Run
public import Idealize.ShloMosaic.Lib.Quiescent

@[expose] public section

noncomputable section

namespace Cert.ReferenceIdeal.Value

open Cert.ReferenceIdeal Idealize.ShloMosaic Idealize.ShloMosaic.TcCoe Idealize.SL.Sem

variable {F : FTy → Type} [FloatOps F]

/-- The reference declares no semaphore. -/
theorem no_sems : sig.nSem + sig.nDmaSem = 0 := rfl

theorem frame (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2.2.2, sem_eq_zero_of_no_sems no_sems r.2⟩) (run m ρ)

end Cert.ReferenceIdeal.Value

end
-- ==== Proof.Value.Pick.lean ====
/-
  The expert a row picks: the first of the sixteen entries that is as large as any.

  The kernel finds it as the least lane whose entry equals the row's maximum, the reference by a reduction over pairs
  of an entry and its lane. Both are `first`.
-/
module

public import proofs.«01_k».proof.ReferenceIdeal
public import Idealize.ShloMosaic.Lib.Pointwise

@[expose] public section

noncomputable section

namespace Cert.Value

open Idealize.ShloMosaic

/-- The largest entry of a row. -/
def top (f : Fin 16 → EReal) : EReal := Finset.univ.fold max ⊥ f

theorem le_top (f : Fin 16 → EReal) (e : Fin 16) : f e ≤ top f :=
  Finset.le_fold_max _ |>.mpr (Or.inr ⟨e, Finset.mem_univ e, le_rfl⟩)

theorem top_le {f : Fin 16 → EReal} {c : EReal} (h : ∀ e, f e ≤ c) : top f ≤ c :=
  Finset.fold_max_le _ |>.mpr ⟨bot_le, fun e _ => h e⟩

theorem exists_first (f : Fin 16 → EReal) : ∃ e, f e = top f ∧ ∀ k, f k = top f → e ≤ k := by
  obtain ⟨m, -, hm⟩ := Finset.exists_max_image Finset.univ f ⟨0, Finset.mem_univ 0⟩
  have hne : (Finset.univ.filter fun e => f e = top f).Nonempty :=
    ⟨m, by simpa using le_antisymm (le_top f m) (top_le fun e => hm e (Finset.mem_univ e))⟩
  exact ⟨_, (Finset.mem_filter.mp (Finset.min'_mem _ hne)).2,
    fun k hk => Finset.min'_le _ k (Finset.mem_filter.mpr ⟨Finset.mem_univ k, hk⟩)⟩

/-- The first entry of a row that is as large as any. -/
def first (f : Fin 16 → EReal) : Fin 16 := (exists_first f).choose

theorem first_eq (f : Fin 16 → EReal) : f (first f) = top f := (exists_first f).choose_spec.1

theorem first_le (f : Fin 16 → EReal) (k : Fin 16) (h : f k = top f) : first f ≤ k := (exists_first f).choose_spec.2 k h

/-- The lanes as 32-bit words are in order and all below 2147483647. -/
theorem lane_toInt : ∀ k : Fin 17, (BitVec.ofNat 32 k.val).toInt = (k.val : Int) := by decide

theorem lane16_toInt (k : Fin 16) : (BitVec.ofNat 32 k.val).toInt = (k.val : Int) := lane_toInt k.castSucc

theorem lane_inj {a b : Fin 16} (h : BitVec.ofNat 32 a.val = BitVec.ofNat 32 b.val) : a = b := by
  have := congrArg BitVec.toInt h
  rw [lane16_toInt, lane16_toInt] at this
  exact Fin.ext (by omega)

theorem minsi_toInt (x y : BitVec 32) : (IntOp.minsi x y).toInt = min x.toInt y.toInt := by
  unfold IntOp.minsi
  split
  · next h => have := BitVec.slt_iff_toInt_lt.mp h; omega
  · next h => have := mt BitVec.slt_iff_toInt_lt.mpr h; omega

/-- The least lane holding the row's maximum, sixteen standing for a lane that does not hold it. -/
theorem fold_minsi (f : Fin 16 → EReal) :
    (Finset.univ : Finset (Fin 16)).fold IntOp.minsi 2147483647#32
        (fun x => if f x = top f then BitVec.ofNat 32 x.val else 16#32) = BitVec.ofNat 32 (first f).val := by
  apply BitVec.eq_of_toInt_eq
  rw [← Finset.fold_hom (op' := min) (m := BitVec.toInt) minsi_toInt, lane16_toInt]
  apply le_antisymm
  · refine Finset.fold_min_le _ |>.mpr (Or.inr ⟨first f, Finset.mem_univ _, ?_⟩)
    rw [if_pos (first_eq f), lane16_toInt]
  · refine Finset.le_fold_min _ |>.mpr ⟨?_, fun x _ => ?_⟩
    · have := (first f).isLt
      rw [show (2147483647#32 : BitVec 32).toInt = 2147483647 from by decide]
      omega
    · split
      · next h =>
        have := first_le f x h
        rw [lane16_toInt]
        omega
      · have := (first f).isLt
        rw [show (16#32 : BitVec 32).toInt = 16 from by decide]
        omega

/-! ## The reduction over pairs -/

/-- A pair no worse than another: a larger entry, or the same entry at a lane no later. -/
def Better (p q : EReal × BitVec 32) : Prop := q.1 < p.1 ∨ (q.1 = p.1 ∧ p.2.toInt ≤ q.2.toInt)

theorem Better.refl (p : EReal × BitVec 32) : Better p p := Or.inr ⟨rfl, le_rfl⟩

theorem Better.trans {p q r : EReal × BitVec 32} (h : Better p q) (h' : Better q r) : Better p r := by
  rcases h with h | ⟨h, hl⟩ <;> rcases h' with h' | ⟨h', hl'⟩
  · exact Or.inl (h'.trans h)
  · exact Or.inl (h' ▸ h)
  · exact Or.inl (h ▸ h')
  · exact Or.inr ⟨h'.trans h, hl.trans hl'⟩

theorem Better.antisymm {p q : EReal × BitVec 32} (h : Better p q) (h' : Better q p) : p = q := by
  rcases h with h | ⟨h, hl⟩ <;> rcases h' with h' | ⟨h', hl'⟩
  · exact absurd h' h.asymm
  · exact absurd h'.symm h.ne
  · exact absurd h.symm h'.ne
  · exact Prod.ext h.symm (BitVec.eq_of_toInt_eq (le_antisymm hl hl'))

/-- The reference's step keeps one of its two pairs, one no worse than either. -/
theorem step_spec (a b : EReal × BitVec 32) :
    (ReferenceIdeal.reducer_argmax_f32_i32 (F := Ideal) a b = a ∧ Better a b)
      ∨ (ReferenceIdeal.reducer_argmax_f32_i32 (F := Ideal) a b = b ∧ Better b a) := by
  obtain ⟨x, i⟩ := a
  obtain ⟨y, j⟩ := b
  simp only [ReferenceIdeal.reducer_argmax_f32_i32, Ideal.cmpf_def, Ideal.cmp, IntOp.ori, IntOp.andi, IntOp.cmpi,
    Scalar.select, Better]
  rcases lt_trichotomy x y with h | h | h
  · right; simp [h, h.asymm, h.ne]
  · subst h
    by_cases hs : i.slt j = true
    · left; simp [hs, (BitVec.slt_iff_toInt_lt.mp hs).le]
    · right; simp [hs, not_lt.mp (mt BitVec.slt_iff_toInt_lt.mpr hs)]
  · left; simp [h, h.ne']

/-- The fold of the step over a list is one of the pairs met, no worse than any of them. -/
theorem foldl_best (l : List (EReal × BitVec 32)) (a : EReal × BitVec 32) :
    l.foldl (ReferenceIdeal.reducer_argmax_f32_i32 (F := Ideal)) a ∈ a :: l
      ∧ ∀ q ∈ a :: l, Better (l.foldl (ReferenceIdeal.reducer_argmax_f32_i32 (F := Ideal)) a) q := by
  induction l generalizing a with
  | nil => simpa using Better.refl a
  | cons b l ih =>
    rw [List.foldl_cons]
    rcases step_spec a b with ⟨h, hb⟩ | ⟨h, hb⟩ <;> rw [h]
    · obtain ⟨hm, hq⟩ := ih a
      refine ⟨by simp only [List.mem_cons] at hm ⊢; tauto, fun q hqm => ?_⟩
      simp only [List.mem_cons] at hqm
      rcases hqm with rfl | rfl | hqm
      · exact hq _ (by simp)
      · exact (hq a (by simp)).trans hb
      · exact hq q (by simp [hqm])
    · obtain ⟨hm, hq⟩ := ih b
      refine ⟨by simp only [List.mem_cons] at hm ⊢; tauto, fun q hqm => ?_⟩
      simp only [List.mem_cons] at hqm
      rcases hqm with rfl | rfl | hqm
      · exact (hq b (by simp)).trans hb
      · exact hq _ (by simp)
      · exact hq q (by simp [hqm])

/-- The pair of the row's maximum and its first lane is no worse than any pair of an entry and its lane. -/
theorem first_better (f : Fin 16 → EReal) (k : Fin 16) :
    Better (f (first f), BitVec.ofNat 32 (first f).val) (f k, BitVec.ofNat 32 k.val) := by
  rcases lt_or_eq_of_le (le_top f k) with h | h
  · exact Or.inl ((first_eq f).symm ▸ h)
  · refine Or.inr ⟨h.trans (first_eq f).symm, ?_⟩
    have := first_le f k h
    rw [lane16_toInt, lane16_toInt]
    omega

/-- The reduction from the pair of the least value and lane zero, over a list of exactly the row's pairs. -/
theorem foldl_first (f : Fin 16 → EReal) (l : List (EReal × BitVec 32))
    (hl : ∀ p, p ∈ l ↔ ∃ k : Fin 16, p = (f k, BitVec.ofNat 32 k.val)) :
    (l.foldl (ReferenceIdeal.reducer_argmax_f32_i32 (F := Ideal)) (⊥, 0#32)).2 = BitVec.ofNat 32 (first f).val := by
  obtain ⟨hm, hq⟩ := foldl_best l (⊥, 0#32)
  have hb := hq (f (first f), BitVec.ofNat 32 (first f).val) (List.mem_cons_of_mem _ ((hl _).mpr ⟨_, rfl⟩))
  rcases List.mem_cons.mp hm with h | h
  · rw [h] at hb ⊢
    rcases hb with hb | ⟨hb, -⟩
    · exact absurd hb not_lt_bot
    · have h0 : first f ≤ 0 := first_le f 0 (le_antisymm (le_top f 0) (by rw [← first_eq f, show f (first f) = ⊥ from hb]; exact bot_le))
      rw [Fin.le_zero_iff.mp h0]
      rfl
  · obtain ⟨k, hk⟩ := (hl _).mp h
    rw [hk] at hb ⊢
    exact congrArg Prod.snd (hb.antisymm (first_better f k))

end Cert.Value

end
-- ==== Proof.Value.Prefix.lean ====
/-
  Running sums down a column of 4096 entries.

  The kernel cuts the column in eight pieces of 512 and adds to each piece's own running sum the total of the pieces
  before it; the reference sums, for every row, a window of the column padded with zeros. Both are `run`.
-/
module

public import Idealize.ShloMosaic.Lib.Pointwise

@[expose] public section

noncomputable section

namespace Cert.Value

open Idealize.ShloMosaic

/-- A column as a function of every natural row, zero below the last. -/
def ext (h : Fin 4096 → EReal) (i : Nat) : EReal := if hi : i < 4096 then h ⟨i, hi⟩ else 0

theorem ext_val (h : Fin 4096 → EReal) (i : Fin 4096) : ext h i.val = h i := by simp [ext]

theorem ext_of_lt (h : Fin 4096 → EReal) {i : Nat} (hi : i < 4096) : ext h i = h ⟨i, hi⟩ := by simp [ext, hi]

/-- The sum of the first `n` entries. -/
def run (h : Fin 4096 → EReal) (n : Nat) : EReal := ∑ i ∈ Finset.range n, ext h i

theorem run_all (h : Fin 4096 → EReal) : run h 4096 = ∑ i, h i := by
  unfold run
  rw [Finset.sum_range]
  exact Finset.sum_congr rfl fun i _ => ext_val h i

/-- A running sum goes on from an earlier one. -/
theorem run_add (h : Fin 4096 → EReal) (n m : Nat) : run h (n + m) = run h n + ∑ x ∈ Finset.range m, ext h (n + x) :=
  Finset.sum_range_add _ n m

/-- A row of the triangle of ones over a piece, times the piece, is the sum of the piece's entries down to that row. -/
theorem sum_triangle (h : Fin 4096 → EReal) (n : Nat) (a : Fin 512) (g : Fin 512 → EReal)
    (hg : ∀ x : Fin 512, g x = (if x ≤ a then 1 else 0) * ext h (n + x.val)) :
    ∑ x, g x = ∑ x ∈ Finset.range (a.val + 1), ext h (n + x) := by
  have e : ∀ x : Fin 512, g x = (fun y : Nat => if y ≤ a.val then ext h (n + y) else 0) x.val := by
    intro x
    rw [hg]
    by_cases hx : x ≤ a
    · rw [if_pos hx, one_mul]; exact (if_pos (Fin.le_def.mp hx)).symm
    · rw [if_neg hx, zero_mul]; exact (if_neg fun hh => hx (Fin.le_def.mpr hh)).symm
  refine (Finset.sum_congr rfl fun x _ => e x).trans ?_
  refine (Finset.sum_range fun y : Nat => if y ≤ a.val then ext h (n + y) else 0).symm.trans ?_
  rw [← Finset.sum_filter]
  refine Finset.sum_congr (Finset.ext fun y => ?_) fun _ _ => rfl
  have := a.isLt
  simp only [Finset.mem_filter, Finset.mem_range]
  omega

/-- A left fold of sums is the initial value and the sum. -/
theorem foldl_sum {n : Nat} (f : Fin n → EReal) (v : EReal) :
    (List.finRange n).foldl (fun r i => r + f i) v = v + ∑ i, f i := by
  rw [← List.sum_ofFn, List.ofFn_eq_map]
  generalize List.finRange n = l
  induction l generalizing v with
  | nil => simp
  | cons a l ih => rw [List.foldl_cons, ih, List.map_cons, List.sum_cons, add_assoc]

/-- A window of the column padded above with 4095 zeros, ending at row `r`, sums to the running sum. -/
theorem sum_window (h : Fin 4096 → EReal) (r : Fin 4096) :
    ∑ n : Fin 4096, (if 4095 ≤ r.val + n.val then ext h (r.val + n.val - 4095) else 0) = run h (r.val + 1) := by
  have hr := r.isLt
  rw [← Finset.sum_range (fun n => if 4095 ≤ r.val + n then ext h (r.val + n - 4095) else 0),
    show Finset.range 4096 = Finset.range ((4095 - r.val) + (r.val + 1)) by congr 1; omega, Finset.sum_range_add, Finset.sum_eq_zero, zero_add]
  · refine Finset.sum_congr rfl fun x _ => ?_
    rw [if_pos (by omega)]
    exact congrArg (ext h) (by omega)
  · intro x hx
    have := Finset.mem_range.mp hx
    rw [if_neg (by omega)]

/-- A running sum of entries each zero or one is a natural number. -/
theorem run_natCast (h : Fin 4096 → EReal) (hh : ∀ i, h i = 0 ∨ h i = 1) (n : Nat) : ∃ k : Nat, run h n = ((k : ℝ) : EReal) := by
  induction n with
  | zero => exact ⟨0, by simp [run]⟩
  | succ n ih =>
    obtain ⟨k, hk⟩ := ih
    have e : run h (n + 1) = run h n + ext h n := Finset.sum_range_succ _ n
    have hn : ext h n = 0 ∨ ext h n = 1 := by
      unfold ext
      split
      · exact hh _
      · exact Or.inl rfl
    rcases hn with hn | hn
    · exact ⟨k, by rw [e, hk, hn, add_zero]⟩
    · exact ⟨k + 1, by rw [e, hk, hn]; push_cast; rfl⟩

/-- A running sum that ends in a one, less one, is a natural number. -/
theorem run_pred (h : Fin 4096 → EReal) (hh : ∀ i, h i = 0 ∨ h i = 1) (r : Fin 4096) (hr : h r = 1) :
    ∃ k : Nat, run h (r.val + 1) - 1 = ((k : ℝ) : EReal) := by
  obtain ⟨k, hk⟩ := run_natCast h hh r.val
  refine ⟨k, ?_⟩
  rw [show run h (r.val + 1) = run h r.val + ext h r.val from Finset.sum_range_succ _ _, ext_val, hr, hk,
    show (1 : EReal) = ((1 : ℝ) : EReal) from rfl, ← EReal.coe_add, ← EReal.coe_sub]
  congr 1
  ring

end Cert.Value

end
-- ==== Proof.Value.Table.lean ====
/-
  The routing table of 4096 rows of sixteen logits, in plain terms: the gates, the two experts each row picks, its place
  in the queue of each, whether the place is within the capacity of 512, and the row's two weights.
-/
module

public import proofs.«01_k».proof.Proof.Value.Pick
public import proofs.«01_k».proof.Proof.Value.Prefix

@[expose] public section

noncomputable section

namespace Cert.Value

open Idealize.ShloMosaic

/-- One extended real for every row and expert. -/
abbrev Rows := Fin 4096 → Fin 16 → EReal

/-- An array of 4096 rows of sixteen entries, by row and expert. -/
def rows (v : (⟨2, ![4096, 16]⟩ : Shape).Idx → EReal) : Rows := fun r e => v (ix2 r e)

/-- One where the two experts are the same, zero where they are not. -/
def hot (a b : Fin 16) : EReal := if a = b then 1 else 0

/-- The gates: each row's exponentials over their sum. -/
def gate (z : Rows) : Rows := fun r e =>
  Ideal.div (Ideal.exp (z r e - top (z r))) (∑ k, Ideal.exp (z r k - top (z r)))

/-- The first expert of a row. -/
def pick1 (z : Rows) (r : Fin 4096) : Fin 16 := first (gate z r)

/-- The logits without each row's first expert. -/
def rest (z : Rows) : Rows := fun r e => if e = pick1 z r then ⊥ else z r e

/-- The second expert of a row. -/
def pick2 (z : Rows) (r : Fin 4096) : Fin 16 := first (rest z r)

def mask1 (z : Rows) : Rows := fun r e => hot e (pick1 z r)

def mask2 (z : Rows) : Rows := fun r e => hot e (pick2 z r)

/-- How many of the rows down to this one chose the expert first, less one. -/
def place1 (z : Rows) : Rows := fun r e => run (fun i => mask1 z i e) (r.val + 1) - 1

/-- How many of the rows down to this one chose the expert second, less one, behind all that chose it first. -/
def place2 (z : Rows) : Rows := fun r e => run (fun i => mask2 z i e) (r.val + 1) - 1 + ∑ i, mask1 z i e

/-- A mask where the place is within the capacity. -/
def kept (m p : Rows) : Rows := fun r e => m r e * (if p r e < ((512 : ℝ) : EReal) then 1 else 0)

/-- A row's weight under a mask. -/
def weight (z m : Rows) (r : Fin 4096) : EReal := ∑ e, gate z r e * m r e

/-- A row's place under a mask. -/
def slot (p m : Rows) (r : Fin 4096) : EReal := ∑ e, p r e * m r e

def kept1 (z : Rows) : Rows := kept (mask1 z) (place1 z)

def kept2 (z : Rows) : Rows := kept (mask2 z) (place2 z)

/-- The least positive step at one, which the sum of a row's weights is kept above. -/
def least : EReal := Ideal.ofBits .f32 0x34000000#32

/-- What a row's two weights are divided by. -/
def denom (z : Rows) (r : Fin 4096) : EReal := max (weight z (kept1 z) r + weight z (kept2 z) r) least

/-- The balance of the experts: the sum over the experts of the product of the mean gate and the mean of the first
    mask, times sixteen. -/
def balance (z : Rows) : EReal :=
  (∑ e, (∑ r, gate z r e) * (((4096 : ℝ)⁻¹ : ℝ) : EReal) * ((∑ r, mask1 z r e) * (((4096 : ℝ)⁻¹ : ℝ) : EReal)))
    * ((16 : ℝ) : EReal)

theorem hot_zero_or_one (a b : Fin 16) : hot a b = 0 ∨ hot a b = 1 := by
  unfold hot; split
  · exact Or.inr rfl
  · exact Or.inl rfl

/-! ## The constants -/

theorem bits_bot : Ideal.ofBits .f32 0xFF800000#32 = ⊥ := by simp [Ideal.ofBits, Ideal.ieee]

theorem bits_top : Ideal.ofBits .f32 0x7F800000#32 = ⊤ := by simp [Ideal.ofBits, Ideal.ieee]

theorem bits_512 : Ideal.ofBits .f32 0x44000000#32 = ((512 : ℝ) : EReal) := by
  simp [Ideal.ofBits, Ideal.ieee, -EReal.coe_mul]; norm_num

theorem bits_4096 : Ideal.ofBits .f32 0x45800000#32 = ((4096 : ℝ) : EReal) := by
  simp [Ideal.ofBits, Ideal.ieee, -EReal.coe_mul]; norm_num

theorem bits_inv4096 : Ideal.ofBits .f32 0x39800000#32 = (((4096 : ℝ)⁻¹ : ℝ) : EReal) := by
  simp [Ideal.ofBits, Ideal.ieee, -EReal.coe_mul]; norm_num

theorem bits_16 : Ideal.ofBits .f32 0x41800000#32 = ((16 : ℝ) : EReal) := by
  simp [Ideal.ofBits, Ideal.ieee, -EReal.coe_mul]; norm_num

theorem bits_256 : Ideal.ofBits .f32 0x43800000#32 = ((256 : ℝ) : EReal) := by
  simp [Ideal.ofBits, Ideal.ieee, -EReal.coe_mul]; norm_num

theorem least_pos : 0 < least := by
  unfold least
  simp only [Ideal.ofBits, Ideal.ieee]
  simp [-EReal.coe_mul]

theorem bits_norm : ∃ x : ℝ, Ideal.ofBits .f32 0x3FC00000#32 = (x : EReal) := by
  simp [Ideal.ofBits, Ideal.ieee, -EReal.coe_mul]

theorem bits_floor : ∃ x : ℝ, 0 < x ∧ Ideal.ofBits .f32 0x38D1B717#32 = (x : EReal) := by
  simp [Ideal.ofBits, Ideal.ieee, -EReal.coe_mul]

end Cert.Value

end
-- ==== Proof.Value.KernelTable.lean ====
/-
  The kernel's routing table, read at a row and an expert: the columns it keeps for each row are the table's.
-/
module

public import proofs.«01_k».proof.Proof.PI.Phases
public import proofs.«01_k».proof.Proof.Value.Table

@[expose] public section

set_option maxRecDepth 16384

noncomputable section

namespace Cert.Value

open Idealize.ShloMosaic Cert.KernelIdeal Cert.KernelIdeal.Gen Cert.KernelIdeal.Phases

/-! ## Words and floats -/

theorem sitofp_bool (b : Bool) :
    FloatOps.sitofp (F := Ideal) .f32 (BitVec.setWidth 32 (BitVec.ofBool b)) = if b then 1 else 0 := by
  cases b
  · show ((((BitVec.setWidth 32 (BitVec.ofBool false)).toInt : ℝ)) : EReal) = 0
    simp
  · show ((((BitVec.setWidth 32 (BitVec.ofBool true)).toInt : ℝ)) : EReal) = 1
    rw [show (BitVec.setWidth 32 (BitVec.ofBool true)).toInt = 1 from by decide]
    simp

theorem sitofp_lane (a b : Fin 16) :
    FloatOps.sitofp (F := Ideal) .f32
        (BitVec.setWidth 32 (IntOp.cmpi .eq (BitVec.ofNat 32 a.val) (BitVec.ofNat 32 b.val))) = hot a b := by
  refine (sitofp_bool _).trans ?_
  unfold hot
  by_cases h : a = b
  · subst h; simp
  · rw [if_neg h, if_neg]
    simpa using fun hh => h (lane_inj hh)

theorem lane_real (a : Fin 16) : FloatOps.sitofp (F := Ideal) .f32 (BitVec.ofNat 32 a.val) = ((a.val : ℝ) : EReal) := by
  show ((((BitVec.ofNat 32 a.val).toInt : ℝ)) : EReal) = _
  rw [lane16_toInt]
  simp

theorem sitofp_lt (x : EReal) :
    FloatOps.sitofp (F := Ideal) .f32 (BitVec.setWidth 32 (BitVec.ofBool (decide (x < Ideal.ofBits .f32 0x44000000#32))))
      = if x < ((512 : ℝ) : EReal) then 1 else 0 := by
  rw [sitofp_bool, bits_512]
  simp

variable (Z : Vec Ideal S4096x16 .f32)

/-! ## The gates and the two picks -/

theorem gate_at (r : Fin 4096) (e : Fin 16) : k0_pay6 Z (ix2 r e) = gate (rows Z) r e := by
  pointwise [k0_pay6]
  rw [bits_bot]
  rfl

theorem pick1_at (r : Fin 4096) : k0_pay7 Z (ix2 r 0) = BitVec.ofNat 32 (pick1 (rows Z) r).val := by
  pointwise [k0_pay7]
  rw [bits_bot]
  simp only [gate_at]
  exact fold_minsi (gate (rows Z) r)

theorem mask1_at (r : Fin 4096) (e : Fin 16) : k0_pay8 Z (ix2 r e) = mask1 (rows Z) r e := by
  pointwise [k0_pay8]
  rw [pick1_at]
  exact sitofp_lane e _

theorem masked_at (r : Fin 4096) (e : Fin 16) {d : Decidable ((0 : EReal) < k0_pay8 Z (ix2 r e))} :
    @ite (Ideal .f32) ((0 : EReal) < k0_pay8 Z (ix2 r e)) d (⊥ : EReal) (Z (ix2 r e)) = rest (rows Z) r e := by
  have hm := mask1_at Z r e
  unfold mask1 hot at hm
  unfold rest
  by_cases h : e = pick1 (rows Z) r
  · rw [if_pos h] at hm ⊢
    exact if_pos (by rw [hm]; exact zero_lt_one)
  · rw [if_neg h] at hm ⊢
    exact if_neg (by rw [hm]; exact lt_irrefl 0)

theorem pick2_at (r : Fin 4096) : k0_pay9 Z (ix2 r 0) = BitVec.ofNat 32 (pick2 (rows Z) r).val := by
  pointwise [k0_pay9]
  simp only [bits_bot, masked_at]
  exact fold_minsi (rest (rows Z) r)

theorem mask2_at (r : Fin 4096) (e : Fin 16) : k0_pay10 Z (ix2 r e) = mask2 (rows Z) r e := by
  pointwise [k0_pay10]
  rw [pick2_at]
  exact sitofp_lane e _

/-! ## The running sums by pieces -/

theorem row_toInt (a : Fin 512) : (BitVec.ofNat 32 a.val).toInt = (a.val : Int) := by
  have := a.isLt
  rw [BitVec.toInt_eq_toNat_cond, BitVec.toNat_ofNat, Nat.mod_eq_of_lt (by omega)]
  omega

theorem triangle_at (a x : Fin 512) : k0_pay11 (F := Ideal) (ix2 a x) = if x ≤ a then 1 else 0 := by
  pointwise [k0_pay11]
  refine (sitofp_bool _).trans ?_
  have e : (BitVec.ofNat 32 x.val).sle (BitVec.ofNat 32 a.val) = true ↔ x ≤ a := by
    rw [BitVec.sle_iff_toInt_le, row_toInt, row_toInt, Fin.le_def]
    omega
  by_cases h : x ≤ a
  · rw [if_pos h, if_pos (e.mpr h)]
  · rw [if_neg h, if_neg fun hh => h (e.mp hh)]

/-- A column of an array of 4096 rows. -/
def col (m : S4096x16.Idx → EReal) (e : Fin 16) : Fin 4096 → EReal := fun i => m (ix2 i e)

/-- A row of the triangle against a piece of a column. -/
theorem piece_at (m : S4096x16.Idx → EReal) (e : Fin 16) (n : Nat) (hn : n + 512 ≤ 4096) (a : Fin 512) :
    ∑ x : Fin 512, k0_pay11 (F := Ideal) (ix2 a x) * m (ix2 ⟨n + x.val, by omega⟩ e)
      = ∑ x ∈ Finset.range (a.val + 1), ext (col m e) (n + x) :=
  sum_triangle (col m e) n a _ fun x => by
    rw [triangle_at, ext_of_lt]
    rfl

theorem piece0_at (m : S4096x16.Idx → EReal) (e : Fin 16) (a : Fin 512) :
    ∑ x : Fin 512, k0_pay11 (F := Ideal) (ix2 a x) * m (ix2 ⟨x.val, by omega⟩ e) = run (col m e) (a.val + 1) := by
  refine (sum_triangle (col m e) 0 a _ fun x => ?_).trans ?_
  · rw [triangle_at, Nat.zero_add, ext_of_lt]
    rfl
  · simp only [Nat.zero_add]
    rfl

/-- The total of the pieces before, and one more piece. -/
theorem run_step (h : Fin 4096 → EReal) (n : Nat) :
    run h n + ∑ x ∈ Finset.range ((511 : Fin 512).val + 1), ext h (n + x) = run h (n + 512) := (run_add h n 512).symm

theorem run_first (h : Fin 4096 → EReal) : run h ((511 : Fin 512).val + 1) = run h 512 := rfl

/-- The running sum within a piece, and the total of the pieces before. -/
theorem run_within (h : Fin 4096 → EReal) (n a r : Nat) (hr : r + 1 = n + (a + 1)) :
    ∑ x ∈ Finset.range (a + 1), ext h (n + x) + run h n = run h (r + 1) := by
  rw [hr, run_add, add_comm]

/-- The totals of the pieces, one after another. -/
theorem totals_at (m : S4096x16.Idx → EReal) (e : Fin 16) (n : Nat) (hn : n + 512 ≤ 4096) :
    run (col m e) n + ∑ x : Fin 512, k0_pay11 (F := Ideal) (ix2 511 x) * m (ix2 ⟨n + x.val, by omega⟩ e)
      = run (col m e) (n + 512) := by
  rw [piece_at m e n hn, run_step]

theorem total0_at (m : S4096x16.Idx → EReal) (e : Fin 16) :
    ∑ x : Fin 512, k0_pay11 (F := Ideal) (ix2 511 x) * m (ix2 ⟨x.val, by omega⟩ e) = run (col m e) 512 := by
  rw [piece0_at, run_first]

/-- The columns of the two masks. -/
theorem col_mask1 (e : Fin 16) : col (k0_pay8 Z) e = fun i => mask1 (rows Z) i e := funext fun i => mask1_at Z i e

theorem col_mask2 (e : Fin 16) : col (k0_pay10 Z) e = fun i => mask2 (rows Z) i e := funext fun i => mask2_at Z i e

theorem loc1_at (r : Fin 4096) (e : Fin 16) : loc1 Z (ix2 r e) = place1 (rows Z) r e := by
  unfold loc1
  pointwise [k0_pay33, k0_pay30, k0_pay14, k0_pay15, k0_pay16, k0_pay17, k0_pay18, k0_pay19, k0_pay20, k0_pay21,
    k0_pay22, k0_pay23, k0_pay24, k0_pay25, k0_pay26, k0_pay27, k0_pay28, k0_pay12, k0_pay13, zero16]
  simp only [total0_at, totals_at _ _ 512 (by norm_num), totals_at _ _ 1024 (by norm_num),
    totals_at _ _ 1536 (by norm_num), totals_at _ _ 2048 (by norm_num), totals_at _ _ 2560 (by norm_num),
    totals_at _ _ 3072 (by norm_num), Nat.reduceAdd]
  simp only [piece0_at, piece_at _ _ 512 (by norm_num), piece_at _ _ 1024 (by norm_num),
    piece_at _ _ 1536 (by norm_num), piece_at _ _ 2048 (by norm_num), piece_at _ _ 2560 (by norm_num),
    piece_at _ _ 3072 (by norm_num), piece_at _ _ 3584 (by norm_num), col_mask1]
  refine congrArg (· - (1 : EReal)) ?_
  split_ifs
  · rfl
  all_goals exact run_within _ _ _ _ (by omega)

theorem total1_at (e : Fin 16) :
    k0_pay29 (k0_pay8 Z) k0_pay11 k0_pay12 (k0_pay13 Z) zero16 (ix2 0 e) = ∑ i, mask1 (rows Z) i e := by
  pointwise [k0_pay29, k0_pay14, k0_pay15, k0_pay16, k0_pay17, k0_pay18, k0_pay19, k0_pay20, k0_pay21,
    k0_pay22, k0_pay23, k0_pay24, k0_pay25, k0_pay26, k0_pay27, k0_pay28, k0_pay12, k0_pay13, zero16]
  simp only [total0_at, totals_at _ _ 512 (by norm_num), totals_at _ _ 1024 (by norm_num),
    totals_at _ _ 1536 (by norm_num), totals_at _ _ 2048 (by norm_num), totals_at _ _ 2560 (by norm_num),
    totals_at _ _ 3072 (by norm_num), totals_at _ _ 3584 (by norm_num), Nat.reduceAdd]
  rw [run_all, col_mask1]

theorem loc2_at (r : Fin 4096) (e : Fin 16) : loc2 Z (ix2 r e) = place2 (rows Z) r e := by
  unfold loc2
  pointwise [k0_pay34, k0_pay32, k0_pay31]
  simp only [total0_at, totals_at _ _ 512 (by norm_num), totals_at _ _ 1024 (by norm_num),
    totals_at _ _ 1536 (by norm_num), totals_at _ _ 2048 (by norm_num), totals_at _ _ 2560 (by norm_num),
    totals_at _ _ 3072 (by norm_num), Nat.reduceAdd]
  simp only [piece0_at, piece_at _ _ 512 (by norm_num), piece_at _ _ 1024 (by norm_num),
    piece_at _ _ 1536 (by norm_num), piece_at _ _ 2048 (by norm_num), piece_at _ _ 2560 (by norm_num),
    piece_at _ _ 3072 (by norm_num), piece_at _ _ 3584 (by norm_num), col_mask2, total1_at]
  refine congrArg (· - (1 : EReal) + ∑ i, mask1 (rows Z) i e) ?_
  split_ifs
  · rfl
  all_goals exact run_within _ _ _ _ (by omega)

/-! ## The columns -/

theorem kept1_at (r : Fin 4096) (e : Fin 16) : k0_pay35 (k0_pay8 Z) (loc1 Z) (ix2 r e) = kept1 (rows Z) r e := by
  pointwise [k0_pay35]
  rw [mask1_at, loc1_at]
  exact congrArg (mask1 (rows Z) r e * ·) (sitofp_lt _)

theorem kept2_at (r : Fin 4096) (e : Fin 16) : k0_pay36 (k0_pay10 Z) (loc2 Z) (ix2 r e) = kept2 (rows Z) r e := by
  pointwise [k0_pay36]
  rw [mask2_at, loc2_at]
  exact congrArg (mask2 (rows Z) r e * ·) (sitofp_lt _)

theorem weight1_at (r : Fin 4096) :
    k0_pay37 (k0_pay6 Z) (k0_pay8 Z) (loc1 Z) (ix2 r 0) = weight (rows Z) (kept1 (rows Z)) r := by
  pointwise [k0_pay37]
  simp only [gate_at, kept1_at]
  rfl

theorem weight2_at (r : Fin 4096) :
    k0_pay38 (k0_pay6 Z) (k0_pay10 Z) (loc2 Z) (ix2 r 0) = weight (rows Z) (kept2 (rows Z)) r := by
  pointwise [k0_pay38]
  simp only [gate_at, kept2_at]
  rfl

theorem denom_at (r : Fin 4096) :
    k0_pay39 (k0_pay6 Z) (k0_pay8 Z) (k0_pay10 Z) (loc1 Z) (loc2 Z) (ix2 r 0) = denom (rows Z) r := by
  pointwise [k0_pay39]
  rw [weight1_at, weight2_at]
  rfl

theorem col0_at (r : Fin 4096) :
    col0 Z (ix2 r 0) = Ideal.div (weight (rows Z) (kept1 (rows Z)) r) (denom (rows Z) r) := by
  unfold col0
  pointwise [k0_pay40]
  rw [weight1_at, denom_at]

theorem col1_at (r : Fin 4096) : col1 Z (ix2 r 0) = slot (place1 (rows Z)) (kept1 (rows Z)) r := by
  unfold col1
  pointwise [k0_pay41]
  simp only [loc1_at, kept1_at]
  rfl

theorem col2_at (r : Fin 4096) : col2 Z (ix2 r 0) = (((pick1 (rows Z) r).val : ℝ) : EReal) := by
  unfold col2
  pointwise [k0_pay42]
  rw [pick1_at]
  exact lane_real _

theorem col3_at (r : Fin 4096) :
    col3 Z (ix2 r 0) = Ideal.div (weight (rows Z) (kept2 (rows Z)) r) (denom (rows Z) r) := by
  unfold col3
  pointwise [k0_pay43]
  rw [weight2_at, denom_at]

theorem col4_at (r : Fin 4096) : col4 Z (ix2 r 0) = slot (place2 (rows Z)) (kept2 (rows Z)) r := by
  unfold col4
  pointwise [k0_pay2, k0_pay44]
  simp only [loc2_at, kept2_at]
  rfl

theorem col5_at (r : Fin 4096) : col5 Z (ix2 r 0) = (((pick2 (rows Z) r).val : ℝ) : EReal) := by
  unfold col5
  pointwise [k0_pay3]
  rw [pick2_at]
  exact lane_real _

theorem laux_at : laux Z (ix2 0 0) = balance (rows Z) := by
  unfold laux
  pointwise [k0_pay4]
  simp only [gate_at, mask1_at, bits_inv4096, bits_16]
  rfl

end Cert.Value

end
-- ==== Proof.Value.Combine.lean ====
/-
  The combining weights and the dispatch mask: for every row, expert and slot, what the row gives to that slot of that
  expert.

  The kernel keeps the row's weight only where the expert is the one the row picked, and the slot only where it is the
  row's place. The reference multiplies the weight by the mask within the capacity and compares the places as integers.
  The two agree: beyond the capacity the weight is zero, and within it the place is a natural number.
-/
module

public import proofs.«01_k».proof.Proof.Value.Table

@[expose] public section

noncomputable section

namespace Cert.Value

open Idealize.ShloMosaic

/-- What one of a row's picks gives: the weight `w` over `d`, at expert `a` and at the slot equal to `p`. -/
def part (w d p : EReal) (a e : Fin 16) (s : Fin 512) : EReal :=
  (if e = a then Ideal.div w d else 0) * (if ((s.val : ℝ) : EReal) = p then 1 else 0)

/-- What a row gives to a slot of an expert. -/
def combine (z : Rows) (r : Fin 4096) (e : Fin 16) (s : Fin 512) : EReal :=
  part (weight z (kept1 z) r) (denom z r) (slot (place1 z) (kept1 z) r) (pick1 z r) e s
    + part (weight z (kept2 z) r) (denom z r) (slot (place2 z) (kept2 z) r) (pick2 z r) e s

/-- Whether a row gives anything. -/
def given (x : EReal) : BitVec 1 := BitVec.ofBool (decide (x ≠ 0))

theorem denom_ne_zero (z : Rows) (r : Fin 4096) : denom z r ≠ 0 := (lt_of_lt_of_le least_pos (le_max_right _ _)).ne'

/-- A natural number below 512, as a word. -/
theorem fptosi_natCast (k : Nat) (hk : k < 512) : Ideal.fptosi 32 ((k : ℝ) : EReal) = BitVec.ofNat 32 k := by
  unfold Ideal.fptosi
  rw [show Ideal.toIntClamped (-((2 ^ (32 - 1) : Nat) : Int)) (((2 ^ (32 - 1) : Nat) : Int) - 1) ((k : ℝ) : EReal) = (k : Int) from ?_]
  · exact BitVec.ofInt_natCast 32 k
  · show max _ (min _ (if (0 : ℝ) ≤ (k : ℝ) then ⌊(k : ℝ)⌋ else ⌈(k : ℝ)⌉)) = (k : Int)
    rw [if_pos (Nat.cast_nonneg k), Int.floor_natCast]
    norm_num
    omega

/-- Within the capacity a mask of one expert is kept as it is. -/
theorem kept_within {m p : Rows} {r : Fin 4096} {a : Fin 16} (hm : ∀ e, m r e = hot e a)
    (h : p r a < ((512 : ℝ) : EReal)) (e : Fin 16) : kept m p r e = hot e a := by
  unfold kept
  rw [hm]
  unfold hot
  by_cases he : e = a
  · rw [if_pos he, he, if_pos h, one_mul]
  · rw [if_neg he, zero_mul]

/-- Beyond the capacity nothing is kept. -/
theorem kept_beyond {m p : Rows} {r : Fin 4096} {a : Fin 16} (hm : ∀ e, m r e = hot e a)
    (h : ¬ p r a < ((512 : ℝ) : EReal)) (e : Fin 16) : kept m p r e = 0 := by
  unfold kept
  rw [hm]
  unfold hot
  by_cases he : e = a
  · rw [he, if_neg h, mul_zero]
  · rw [if_neg he, zero_mul]

theorem slot_within {m p : Rows} {r : Fin 4096} {a : Fin 16} (hm : ∀ e, m r e = hot e a)
    (h : p r a < ((512 : ℝ) : EReal)) : slot p (kept m p) r = p r a := by
  unfold slot
  rw [Finset.sum_eq_single a]
  · rw [kept_within hm h, hot, if_pos rfl, mul_one]
  · intro e _ he
    rw [kept_within hm h, hot, if_neg he, mul_zero]
  · exact fun hn => absurd (Finset.mem_univ a) hn

/-- What one pick gives, as the reference writes it. -/
theorem part_eq (z : Rows) {m p : Rows} {r : Fin 4096} {a : Fin 16} (hm : ∀ e, m r e = hot e a)
    (hp : ∃ k : Nat, p r a = ((k : ℝ) : EReal)) {d : EReal} (hd : d ≠ 0) (e : Fin 16) (s : Fin 512) :
    Ideal.div (weight z (kept m p) r) d * kept m p r e
        * (if Ideal.fptosi 32 (slot p (kept m p) r) = BitVec.ofNat 32 s.val then 1 else 0)
      = part (weight z (kept m p) r) d (slot p (kept m p) r) a e s := by
  unfold part
  by_cases h : p r a < ((512 : ℝ) : EReal)
  · obtain ⟨k, hk⟩ := hp
    rw [kept_within hm h, slot_within hm h, hk]
    have hk' : k < 512 := by
      rw [hk, EReal.coe_lt_coe_iff] at h
      exact_mod_cast h
    rw [fptosi_natCast k hk']
    have hs := s.isLt
    have e1 : (BitVec.ofNat 32 k = BitVec.ofNat 32 s.val) ↔ (((s.val : ℝ) : EReal) = ((k : ℝ) : EReal)) := by
      rw [EReal.coe_eq_coe_iff, Nat.cast_inj]
      constructor
      · intro hh
        have := congrArg BitVec.toNat hh
        rw [BitVec.toNat_ofNat, BitVec.toNat_ofNat, Nat.mod_eq_of_lt (by omega), Nat.mod_eq_of_lt (by omega)] at this
        exact this.symm
      · rintro rfl
        rfl
    rw [if_congr e1 rfl rfl]
    congr 1
    unfold hot
    by_cases he : e = a
    · rw [if_pos he, if_pos he, mul_one]
    · rw [if_neg he, if_neg he, mul_zero]
  · have hw : Ideal.div (weight z (kept m p) r) d = 0 := by
      unfold weight Ideal.div
      rw [if_neg hd, Finset.sum_eq_zero fun e _ => by rw [kept_beyond hm h, mul_zero], zero_mul]
    rw [hw, zero_mul, zero_mul, ite_self, zero_mul]

/-- The row's place in its first expert's queue is a natural number. -/
theorem place1_nat (z : Rows) (r : Fin 4096) : ∃ k : Nat, place1 z r (pick1 z r) = ((k : ℝ) : EReal) :=
  run_pred (fun i => mask1 z i (pick1 z r)) (fun _ => hot_zero_or_one _ _) r (if_pos rfl)

/-- The row's place in its second expert's queue is a natural number. -/
theorem place2_nat (z : Rows) (r : Fin 4096) : ∃ k : Nat, place2 z r (pick2 z r) = ((k : ℝ) : EReal) := by
  obtain ⟨k, hk⟩ := run_pred (fun i => mask2 z i (pick2 z r)) (fun _ => hot_zero_or_one _ _) r (if_pos rfl)
  obtain ⟨n, hn⟩ := run_natCast (fun i => mask1 z i (pick2 z r)) (fun _ => hot_zero_or_one _ _) 4096
  refine ⟨k + n, ?_⟩
  unfold place2
  rw [hk, ← run_all (fun i => mask1 z i (pick2 z r)), hn]
  push_cast
  rfl

/-- What a row gives, as the reference writes it. -/
theorem combine_eq (z : Rows) (r : Fin 4096) (e : Fin 16) (s : Fin 512) :
    Ideal.div (weight z (kept1 z) r) (denom z r) * kept1 z r e
          * (if Ideal.fptosi 32 (slot (place1 z) (kept1 z) r) = BitVec.ofNat 32 s.val then 1 else 0)
        + Ideal.div (weight z (kept2 z) r) (denom z r) * kept2 z r e
          * (if Ideal.fptosi 32 (slot (place2 z) (kept2 z) r) = BitVec.ofNat 32 s.val then 1 else 0)
      = combine z r e s := by
  unfold combine
  rw [kept1, kept2, part_eq z (fun _ => rfl) (place1_nat z r) (denom_ne_zero z r) e s,
    part_eq z (fun _ => rfl) (place2_nat z r) (denom_ne_zero z r) e s]

end Cert.Value

end
-- ==== Proof.Value.KernelArrays.lean ====
/-
  What the kernel leaves in its result arrays: the two big results of the routing table, block of 128 rows by block, and
  the balance.
-/
module

public import proofs.«01_k».proof.Proof.PI.Run
public import proofs.«01_k».proof.Proof.Value.KernelTable
public import proofs.«01_k».proof.Proof.Value.Combine

@[expose] public section

set_option maxRecDepth 16384

noncomputable section

namespace Cert.Value

open Idealize.ShloMosaic Idealize.ShloMosaic.TcCoe Cert.KernelIdeal Cert.KernelIdeal.Gen Cert.KernelIdeal.Phases

/-! ## The blocks -/

/-- An index of a block by its coordinates. -/
theorem coords3 (y : S128x16x512.Idx) : ∃ r e s, y = ix3 r e s :=
  ⟨y 0, y 1, y 2, by
    funext a
    match a with
    | ⟨0, _⟩ => rfl
    | ⟨1, _⟩ => rfl
    | ⟨2, _⟩ => rfl⟩

/-- A row of a piece as a row of the array. -/
def pieceRow (n : ℕ) (r : Fin 128) : Fin 4096 := ⟨(128 * n + r.val) % 4096, Nat.mod_lt _ (by decide)⟩

theorem rowIx_ix2 (n : ℕ) (r : Fin 128) (k : Fin 8) : rowIx (pieceIx n (ix2 r k)) = ix2 (pieceRow n r) 0 := by
  funext a
  match a with
  | ⟨0, _⟩ => rfl
  | ⟨1, _⟩ => rfl

/-- What one pick gives, as the kernel computes it. -/
theorem part_at (w d p : EReal) (a e : Fin 16) (s : Fin 512)
    {_ : Decidable (FloatOps.sitofp (F := Ideal) .f32 (BitVec.ofNat 32 e.val) = ((a.val : ℝ) : EReal))}
    {_ : Decidable (FloatOps.sitofp (F := Ideal) .f32 (BitVec.ofNat 32 s.val) = p)} :
    (if FloatOps.sitofp (F := Ideal) .f32 (BitVec.ofNat 32 e.val) = ((a.val : ℝ) : EReal) then Ideal.div w d else 0)
        * FloatOps.sitofp (F := Ideal) .f32 (BitVec.setWidth 32
            (BitVec.ofBool (decide (FloatOps.sitofp (F := Ideal) .f32 (BitVec.ofNat 32 s.val) = p))))
      = part w d p a e s := by
  have hs : FloatOps.sitofp (F := Ideal) .f32 (BitVec.ofNat 32 s.val) = ((s.val : ℝ) : EReal) := by
    show ((((BitVec.ofNat 32 s.val).toInt : ℝ)) : EReal) = _
    have h := s.isLt
    rw [BitVec.toInt_eq_toNat_cond, BitVec.toNat_ofNat, Nat.mod_eq_of_lt (by omega), if_pos (by omega)]
    simp
  have he : FloatOps.sitofp (F := Ideal) .f32 (BitVec.ofNat 32 e.val) = ((a.val : ℝ) : EReal) ↔ e = a := by
    rw [lane_real, EReal.coe_eq_coe_iff, Nat.cast_inj]
    exact Fin.val_inj
  rw [sitofp_bool]
  unfold part
  refine congrArg₂ (· * ·) ?_ ?_
  · by_cases h : e = a
    · exact (if_pos (he.mpr h)).trans (if_pos h).symm
    · exact (if_neg (mt he.mp h)).trans (if_neg h).symm
  · by_cases h : ((s.val : ℝ) : EReal) = p
    · exact (if_pos (decide_eq_true (hs.trans h))).trans (if_pos h).symm
    · exact (if_neg (by rw [decide_eq_true_eq, hs]; exact h)).trans (if_neg h).symm

/-- The big result's block, at a row, an expert and a slot. -/
theorem block_at (z : Vec Ideal S4096x16 .f32) (n : ℕ) (r : Fin 128) (e : Fin 16) (s : Fin 512) :
    k0_pay45 (piece z n) (ix3 r e s) = combine (rows z) (pieceRow n r) e s := by
  pointwise [k0_pay45]
  have p0 : piece z n (ix2 r 0) = col0 z (ix2 (pieceRow n r) 0) := by rw [← rowIx_ix2 n r 0]; rfl
  have p1 : piece z n (ix2 r 1) = col1 z (ix2 (pieceRow n r) 0) := by rw [← rowIx_ix2 n r 1]; rfl
  have p2 : piece z n (ix2 r 2) = col2 z (ix2 (pieceRow n r) 0) := by rw [← rowIx_ix2 n r 2]; rfl
  have p3 : piece z n (ix2 r 3) = col3 z (ix2 (pieceRow n r) 0) := by rw [← rowIx_ix2 n r 3]; rfl
  have p4 : piece z n (ix2 r 4) = col4 z (ix2 (pieceRow n r) 0) := by rw [← rowIx_ix2 n r 4]; rfl
  have p5 : piece z n (ix2 r 5) = col5 z (ix2 (pieceRow n r) 0) := by rw [← rowIx_ix2 n r 5]; rfl
  rw [p0, p1, p2, p3, p4, p5, col0_at, col1_at, col2_at, col3_at, col4_at, col5_at]
  exact congrArg₂ (· + ·) (part_at _ _ _ _ _ _) (part_at _ _ _ _ _ _)

/-- Its mask's block. -/
theorem mask_at (z : Vec Ideal S4096x16 .f32) (n : ℕ) (r : Fin 128) (e : Fin 16) (s : Fin 512) :
    k0_pay5 (k0_pay46 (piece z n)) (ix3 r e s) = (given (k0_pay45 (piece z n) (ix3 r e s))).setWidth 32 := by
  pointwise [k0_pay5, k0_pay46]
  rfl

/-! ## The blocks cover the arrays -/

/-- The block of a big result's array that a point of the last phase writes. -/
theorem index3 : ∀ t : Fin cfg0.N, 8 < t.val → win0_3.index t 0 = t.val - 9 ∧ win0_3.index t 1 = 0 ∧ win0_3.index t 2 = 0 :=
  (by decide +kernel : ∀ t : Fin grid0.N, 8 < t.val →
    win0_3.index t 0 = t.val - 9 ∧ win0_3.index t 1 = 0 ∧ win0_3.index t 2 = 0)

/-- An element of the block a point of the last phase writes, in the array. -/
theorem emb3 (t : Fin cfg0.N) (ht : 8 < t.val) (r : Fin 128) (e : Fin 16) (s : Fin 512) :
    (win0_3.rect t).emb (ix3 r e s) = ix3 (pieceRow (t.val - 9) r) e s := by
  have hN : t.val < 41 := N_0 ▸ t.isLt
  obtain ⟨h0, h1, h2⟩ := index3 t ht
  funext a; apply Fin.ext; rw [Pipeline.Window.rect_emb_val win0_3 t _ _ rfl]
  match a with
  | ⟨0, _⟩ =>
    show win0_3.index t 0 * 128 + r.val = (128 * (t.val - 9) + r.val) % 4096
    have := r.isLt
    rw [h0, Nat.mod_eq_of_lt (by omega)]; omega
  | ⟨1, _⟩ => show win0_3.index t 1 * 16 + e.val = e.val; rw [h1]; omega
  | ⟨2, _⟩ => show win0_3.index t 2 * 512 + s.val = s.val; rw [h2]; omega

/-- The point that writes a row, and the row's place in its block. -/
theorem row_point (r : Fin 4096) : ∃ t : Fin cfg0.N, 8 < t.val ∧ ∃ r' : Fin 128, pieceRow (t.val - 9) r' = r := by
  have h := r.isLt
  refine ⟨⟨r.val / 128 + 9, by show r.val / 128 + 9 < grid0.N; rw [N_0]; omega⟩, by show 8 < r.val / 128 + 9; omega,
    ⟨r.val % 128, by omega⟩, Fin.ext ?_⟩
  show (128 * (r.val / 128 + 9 - 9) + r.val % 128) % 4096 = r.val
  omega

/-- Every element of a big result lies in a block of the last phase. -/
theorem covered3 (i : S4096x16x512.Idx) :
    ∃ t : Fin cfg0.N, 8 < t.val ∧ ∃ y : S128x16x512.Idx, (win0_3.rect t).emb y = i := by
  obtain ⟨t, ht, r', hr⟩ := row_point (i 0)
  refine ⟨t, ht, ix3 r' (i 1) (i 2), (emb3 t ht _ _ _).trans ?_⟩
  rw [hr]
  funext a
  match a with
  | ⟨0, _⟩ => rfl
  | ⟨1, _⟩ => rfl
  | ⟨2, _⟩ => rfl

variable (m : (ℓ : Loc nD τ sig) → Buf (Elt Ideal) ℓ)

/-- The rows of the table: the kernel's logits. -/
abbrev table (c : Dev nD) : Rows := rows (logits m c)

/-- The first big result. -/
abbrev combined (c : Dev nD) : FVec Ideal S4096x16x512 .f32 := fun y => combine (table m c) (y 0) (y 1) (y 2)

/-- Its mask, as the words the region writes. -/
abbrev chosen (c : Dev nD) : IVec S4096x16x512 32 := fun y => (given (combined m c y)).setWidth 32

theorem flushed3 (c : Dev nD) (t : Fin cfg0.N) (hf : (cfg0.win 3).flush t = true) :
    (dats m 0 c).flushed 3 t = ((cfg0.win 3).blk t).view.read (Elt Ideal) (combined m c) := by
  have ht := (flush3_iff t).mp hf
  show (cfg0.win 3).cut (grid0.coords t) ((dats m 0 c).after 3 t) = _
  rw [after_3]
  funext y
  obtain ⟨r, e, s, rfl⟩ := coords3 y
  refine (block_at (logits m c) (t.val - 9) r e s).trans ?_
  show _ = combined m c ((win0_3.rect t).emb (ix3 r e s))
  rw [emb3 t ht]
  rfl

theorem flushed4 (c : Dev nD) (t : Fin cfg0.N) (hf : (cfg0.win 4).flush t = true) :
    (dats m 0 c).flushed 4 t = ((cfg0.win 4).blk t).view.read (Elt Ideal) (chosen m c) := by
  have ht := (flush4_iff t).mp hf
  show (cfg0.win 4).cut (grid0.coords t) ((dats m 0 c).after 4 t) = _
  rw [after_4]
  funext y
  obtain ⟨r, e, s, rfl⟩ := coords3 y
  refine (mask_at (logits m c) (t.val - 9) r e s).trans ?_
  rw [block_at]
  show _ = chosen m c ((win0_3.rect t).emb (ix3 r e s))
  rw [emb3 t ht]
  rfl

/-- The array of the first big result after the region. -/
theorem array3 (c : Dev nD) : (dats m 0 c).arrAt 3 cfg0.N = combined m c :=
  (dats m 0 c).arrAt_eq_of_cover 3 (combined m c) (flushed3 m c) fun i => by
    obtain ⟨t, ht, y, rfl⟩ := covered3 i
    exact ⟨t, (flush3_iff t).mpr ht, ((cfg0.win 3).blk t).view.emb_mem_set y⟩

/-- The array of its mask after the region. -/
theorem array4 (c : Dev nD) : (dats m 0 c).arrAt 4 cfg0.N = chosen m c :=
  (dats m 0 c).arrAt_eq_of_cover 4 (chosen m c) (flushed4 m c) fun i => by
    obtain ⟨t, ht, y, rfl⟩ := covered3 i
    exact ⟨t, (flush4_iff t).mpr ht, ((cfg0.win 4).blk t).view.emb_mem_set y⟩

/-- The one-element shape has one index. -/
theorem one_index (y : S1x1.Idx) : y = ix2 0 0 := by
  funext a
  match a with
  | ⟨0, h⟩ => exact Subsingleton.elim (α := Fin 1) _ _
  | ⟨1, h⟩ => exact Subsingleton.elim (α := Fin 1) _ _

/-- The array of the balance after the region. -/
theorem array5 (c : Dev nD) : (dats m 0 c).arrAt 5 cfg0.N = laux (logits m c) :=
  (dats m 0 c).arrAt_eq_of_cover 5 (laux (logits m c))
    (fun t hf => by
      show (cfg0.win 5).cut (grid0.coords t) ((dats m 0 c).after 5 t) = _
      rw [after_5]
      funext y
      show laux (logits m c) (y : S1x1.Idx) = laux (logits m c) ((win0_5.rect t).emb y)
      rw [one_index y, one_index ((win0_5.rect t).emb _)])
    fun i => by
      refine ⟨⟨40, by show 40 < grid0.N; rw [N_0]; decide⟩, (flush5_iff _).mpr rfl, ?_⟩
      have e : i = (win0_5.rect ⟨40, by show 40 < grid0.N; rw [N_0]; decide⟩).emb (ix2 0 0 : S1x1.Idx) :=
        (one_index i).trans (one_index _).symm
      rw [e]
      exact ((cfg0.win 5).blk _).view.emb_mem_set _

end Cert.Value

end
-- ==== Proof.Value.KernelResults.lean ====
/-
  The kernel's three results after the host lines that follow its region, as values of the routing table.
-/
module

public import proofs.«01_k».proof.Proof.Value.KernelArrays
public import Idealize.ShloMosaic.Lib.StableHlo.RunRead

@[expose] public section

set_option maxRecDepth 16384

noncomputable section

namespace Cert.Value

open Idealize.ShloMosaic Idealize.ShloMosaic.TcCoe Cert.KernelIdeal Cert.KernelIdeal.Gen Cert.KernelIdeal.Phases

variable (m : (ℓ : Loc nD τ sig) → Buf (Elt Ideal) ℓ) (ρ : Dev nD → PrngReg)

/-- The arrays as the host lines find them. -/
abbrev before (c : Dev nD) : Valuation τ sig (Elt Ideal) :=
  Pipeline.withArrays spec0 c (V0 m c) fun w => (dats m 0 c).arrAt w cfg0.N

theorem before_mask (c : Dev nD) : before m c (Proc.devRef .tc main_call0_v0_1) = chosen m c :=
  (Pipeline.withArrays_arr spec0 launch0.win.arr_inj c _ _ 4).trans (array4 m c)

theorem before_balance (c : Dev nD) : before m c (Proc.devRef .tc main_call0_v0_2) = laux (logits m c) :=
  (Pipeline.withArrays_arr spec0 launch0.win.arr_inj c _ _ 5).trans (array5 m c)

/-- A one-bit word widened differs from zero as it did. -/
theorem ne_zero_widened (b : BitVec 1) : IntOp.cmpi .ne (b.setWidth 32) (0#32) = b := by
  revert b; decide

/-- The mask's result. -/
theorem exit_mask (c : Dev nD) : exitAt m c main_v0_2 = fun y => given (combined m c y) := by
  show StableHlo.after hostOps1 (before m c) (Proc.devRef .tc main_v0_2) = _
  after_reads_simp
  rw [before_mask]
  exact funext fun y => ne_zero_widened (given (combined m c y))

/-- The balance's result. -/
theorem exit_balance (c : Dev nD) : exitAt m c main_v0_0 = fun _ => balance (table m c) := by
  show StableHlo.after hostOps1 (before m c) (Proc.devRef .tc main_v0_0) = _
  after_reads_simp
  rw [before_balance]
  funext i
  exact (congrArg (laux (logits m c)) (one_index _)).trans (laux_at (logits m c))

/-- The run leaves the balance, the combined weights and their mask, and the arguments as they were. -/
theorem kernel_results : θ_run defs (onTc (τ := τ) (main (F := Ideal))) ⟨m, fun _ => 0, ρ⟩ (fun r => ∀ c : Dev nD,
      r.2.mem ((c.tc : Thread nD τ).loc main_v0_0) = (fun _ => balance (table m c))
      ∧ r.2.mem ((c.tc : Thread nD τ).loc main_v0_1) = combined m c
      ∧ r.2.mem ((c.tc : Thread nD τ).loc main_v0_2) = (fun y => given (combined m c y))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  have hin : ∀ b : Ref sig .tc, b = main_v0_0 ∨ b = main_v0_2 → b ∈ Pipeline.restRefs sig (cfgs 0).spec := by
    rintro b (rfl | rfl) <;> decide +kernel
  refine (θ_run defs _ _).mono (fun r h c => ?_) (Cert.KernelIdeal.Phases.run m ρ)
  obtain ⟨ha, hr⟩ := h.1 c
  exact ⟨(hr main_v0_0 (hin _ (.inl rfl))).trans (exit_balance m c), (ha 3).trans (array3 m c),
    (hr main_v0_2 (hin _ (.inr rfl))).trans (exit_mask m c),
    (ha 0).trans (((dats m 0 c).arrAt_in 0 rfl _).trans ((A_eq m c 0).trans (V_main_arg0 m c))),
    (ha 1).trans (((dats m 0 c).arrAt_in 1 rfl _).trans ((A_eq m c 1).trans (V_main_arg1 m c))),
    (ha 2).trans (((dats m 0 c).arrAt_in 2 rfl _).trans ((A_eq m c 2).trans (V_main_arg2 m c)))⟩

end Cert.Value

end
-- ==== Proof.Value.Window.lean ====
/-
  A running sum down the columns of a table, written as a window as tall as the table that slides over it: each row reads
  the sum of the rows down to it.
-/
module

public import Idealize.ShloMosaic.Lib.Pointwise
public import proofs.«01_k».proof.Proof.Value.Prefix

@[expose] public section

noncomputable section

namespace Cert.Value

open Idealize.ShloMosaic

/-- A column's numbers, one after the other. -/
theorem column_position {N : Nat} (n : Fin (⟨2, ![N, 1]⟩ : Shape).numel) :
    ((⟨2, ![N, 1]⟩ : Shape).rowMajor.symm n 0).val = n.val ∧ ((⟨2, ![N, 1]⟩ : Shape).rowMajor.symm n 1).val = 0 := by
  have h1 : ((⟨2, ![N, 1]⟩ : Shape).rowMajor.symm n 1).val = 0 :=
    Nat.lt_one_iff.mp (show _ < 1 from ((⟨2, ![N, 1]⟩ : Shape).rowMajor.symm n 1).isLt)
  have hv := congrArg Fin.val ((⟨2, ![N, 1]⟩ : Shape).rowMajor.apply_symm_apply n)
  rw [Shape.rowMajor_val_two] at hv
  change ((⟨2, ![N, 1]⟩ : Shape).rowMajor.symm n 0).val * 1 + _ = n.val at hv
  rw [h1] at hv
  exact ⟨by omega, h1⟩

theorem column_numel (N : Nat) : (⟨2, ![N, 1]⟩ : Shape).numel = N := by
  show ∏ a : Fin 2, (![N, 1] : Fin 2 → Nat) a = N
  rw [Fin.prod_univ_two]
  show N * 1 = N
  omega

/-- The window at row `r` of column `e`, the numbers of the column being `f`. -/
theorem window_column {M C : Nat} (x : (⟨2, ![M + 1, C]⟩ : Shape).Idx → EReal) (f : Nat → EReal) (e : Fin C)
    (hx : ∀ i : Fin (M + 1), x (ix2 i e) = f i.val) {u : Shape} (init : u.Idx → EReal) (hu : 0 < u.numel)
    (hinit : init (Shape.Idx.first hu) = 0)
    (h : (⟨2, ![M + 1, C]⟩ : Shape).ReduceWindows ![M + 1, 1] ![1, 1] ![M, 0] ![0, 0] ⟨2, ![M + 1, C]⟩) (r : Fin (M + 1)) :
    Host.reduceWindow (· + ·) ![M + 1, 1] ![1, 1] ![M, 0] ![0, 0] x init h hu (ix2 r e)
      = ∑ n : Fin (M + 1), if M ≤ r.val + n.val then f (r.val + n.val - M) else 0 := by
  have hr := r.isLt
  have he := e.isLt
  unfold Host.reduceWindow
  rw [hinit]
  have step : ∀ (g g' : EReal → Fin (⟨2, ![M + 1, 1]⟩ : Shape).numel → EReal) (v : EReal) (l : List _), (∀ a n, g a n = g' a n) →
      l.foldl g v = l.foldl g' v := fun g g' v l hg => by rw [show g = g' from funext fun a => funext fun n => hg a n]
  refine (step _ (fun a n => a + if M ≤ r.val + n.val then f (r.val + n.val - M) else 0) _ _ fun a n => ?_).trans ?_
  · obtain ⟨p0, p1⟩ := column_position n
    have hn : n.val < M + 1 := (n.cast (column_numel (M + 1))).isLt
    refine congrArg (a + ·) ?_
    split
    · rename_i hin
      have h0 := hin 0
      change M ≤ r.val * 1 + ((⟨2, ![M + 1, 1]⟩ : Shape).rowMajor.symm n 0).val
        ∧ r.val * 1 + ((⟨2, ![M + 1, 1]⟩ : Shape).rowMajor.symm n 0).val - M < M + 1 at h0
      rw [p0] at h0
      rw [if_pos (by omega)]
      refine (congrArg x (funext fun a => Fin.ext ?_)).trans (hx ⟨r.val + n.val - M, by omega⟩)
      match a with
      | ⟨0, _⟩ =>
        show r.val * 1 + ((⟨2, ![M + 1, 1]⟩ : Shape).rowMajor.symm n 0).val - M = r.val + n.val - M
        rw [p0]; omega
      | ⟨1, _⟩ =>
        show e.val * 1 + ((⟨2, ![M + 1, 1]⟩ : Shape).rowMajor.symm n 1).val - 0 = e.val
        rw [p1]; omega
    · rename_i hin
      rw [if_neg]
      intro hle
      refine hin fun a => ?_
      match a with
      | ⟨0, _⟩ =>
        show M ≤ r.val * 1 + ((⟨2, ![M + 1, 1]⟩ : Shape).rowMajor.symm n 0).val
          ∧ r.val * 1 + ((⟨2, ![M + 1, 1]⟩ : Shape).rowMajor.symm n 0).val - M < M + 1
        rw [p0]; omega
      | ⟨1, _⟩ =>
        show 0 ≤ e.val * 1 + ((⟨2, ![M + 1, 1]⟩ : Shape).rowMajor.symm n 1).val
          ∧ e.val * 1 + ((⟨2, ![M + 1, 1]⟩ : Shape).rowMajor.symm n 1).val - 0 < C
        rw [p1]; omega
  · rw [foldl_sum (fun n => if M ≤ r.val + n.val then f (r.val + n.val - M) else 0) 0, zero_add]
    exact Fin.sum_congr' (fun n : Fin (M + 1) => if M ≤ r.val + n.val then f (r.val + n.val - M) else 0) (column_numel (M + 1))

/-- The same, for the sum of floats. -/
theorem window_column_add {N M C : Nat} (hN : M + 1 = N) (x : FVec Ideal ⟨2, ![N, C]⟩ .f32) (f : Nat → EReal) (e : Fin C)
    (hx : ∀ i : Fin N, x (ix2 i e) = f i.val) {u : Shape} (init : FVec Ideal u .f32) (hu : 0 < u.numel)
    (hinit : init (Shape.Idx.first hu) = 0)
    (h : (⟨2, ![N, C]⟩ : Shape).ReduceWindows ![N, 1] ![1, 1] ![M, 0] ![0, 0] ⟨2, ![N, C]⟩) (r : Fin N) :
    Host.reduceWindowAdd ![N, 1] ![1, 1] ![M, 0] ![0, 0] x init h hu (ix2 r e)
      = ∑ n : Fin N, if M ≤ r.val + n.val then f (r.val + n.val - M) else 0 := by
  subst hN
  exact window_column x f e hx (fun _ : u.Idx => init (Shape.Idx.first hu)) hu hinit h r

end Cert.Value

end
-- ==== Proof.Value.RefTable.lean ====
/-
  The reference's routing table, read at a row and an expert.
-/
module

public import proofs.«01_k».proof.Proof.Ref.Run
public import proofs.«01_k».proof.Proof.Value.Table
public import proofs.«01_k».proof.Proof.Value.Window

@[expose] public section

set_option maxRecDepth 16384

noncomputable section

namespace Cert.Value

open Idealize.ShloMosaic Cert.ReferenceIdeal Cert.ReferenceIdeal.Gen Cert.ReferenceIdeal.Value

variable (W : Valuation τ sig (Elt Ideal))

/-- The reference's largest logit of a row. -/
theorem ref_top (r : Fin 4096) :
    max (Ideal.ofBits .f32 4286578688#32) (Finset.fold max (Ideal.ofBits .f32 4286578688#32) (res_main_v19 W)
      {i | reducesTo_S4096x16_S4096_d1.drop i = ix1 r}) = top (rows (res_main_v19 W) r) := by
  rw [bits_bot, bot_sup_eq]
  refine (Shape.ReducesTo.fold_fiber_r2_a1 reducesTo_S4096x16_S4096_d1 (ix1 r)
    (max : EReal → EReal → EReal) ⊥ (res_main_v19 W)).trans ?_
  rfl

theorem ref_gate (r : Fin 4096) (e : Fin 16) : res_main_v30 W (ix2 r e) = gate (rows (res_main_v19 W)) r e := by
  unfold res_main_v30 res_main_v26
  pointwise
  rw [ref_top]
  rfl

theorem ref_pick (v : FVec Ideal S4096x16 .f32) (i : IVec S4096x16 32) (b : FVec Ideal S_ .f32) (c : IVec S_ 32)
    (hi : ∀ r e, i (ix2 r e) = BitVec.ofNat 32 e.val) (hb : b ix0 = ⊥) (hc : c ix0 = 0#32) (r : Fin 4096) :
    (Host.argReduce reducer_argmax_f32_i32 v i b c reducesTo_S4096x16_S4096_d1 h_S_ (ix1 r)).2
      = BitVec.ofNat 32 (first (rows v r)).val := by
  rw [Ideal.argReduce_eq_reduce2, Host.reduce2_eq_foldl_fiber]
  rw [Subsingleton.elim (Shape.Idx.first h_S_) ix0, hb, hc]
  refine foldl_first (rows v r) _ fun p => ?_
  unfold Host.argReduceFiber
  rw [List.mem_map]
  constructor
  · rintro ⟨n, hn, rfl⟩
    have hd := of_decide_eq_true (List.mem_filter.mp hn).2
    obtain ⟨k, hk⟩ := (Shape.ReducesTo.fiber_r2_a1 reducesTo_S4096x16_S4096_d1 (ix1 r) _).mp hd
    refine ⟨k, ?_⟩
    rw [← hk]
    exact congrArg₂ Prod.mk rfl (hi r k)
  · rintro ⟨k, rfl⟩
    refine ⟨S4096x16.rowMajor (ix2 r k), List.mem_filter.mpr ⟨List.mem_finRange _, decide_eq_true ?_⟩, ?_⟩
    · rw [Equiv.symm_apply_apply]
      exact (Shape.ReducesTo.fiber_r2_a1 reducesTo_S4096x16_S4096_d1 (ix1 r) _).mpr ⟨k, rfl⟩
    · rw [Equiv.symm_apply_apply, hi]
      rfl

/-- A truth value as a float. -/
theorem uitofp_bool (b : Bool) : FloatOps.uitofp (F := Ideal) .f32 (BitVec.ofBool b) = if b then 1 else 0 := by
  cases b
  · show ((((BitVec.ofBool false).toNat : ℝ)) : EReal) = 0
    simp
  · show ((((BitVec.ofBool true).toNat : ℝ)) : EReal) = 1
    simp

/-- A comparison of two lanes' numbers, as a float. -/
theorem uitofp_lane (a b : Fin 16) :
    FloatOps.uitofp (F := Ideal) .f32 (IntOp.cmpi .eq (BitVec.ofNat 32 a.val) (BitVec.ofNat 32 b.val)) = hot b a := by
  refine (uitofp_bool _).trans ?_
  unfold hot
  by_cases h : b = a
  · subst h; simp
  · rw [if_neg h, if_neg]
    simpa using fun hh => h (lane_inj hh).symm

/-- The reference's first mask. -/
theorem ref_mask1 (r : Fin 4096) (e : Fin 16) : res_main_v32 W (ix2 r e) = mask1 (rows (res_main_v19 W)) r e := by
  unfold res_main_v32
  pointwise
  rw [ref_pick _ _ _ _ (fun r e => by unfold res_main_call4_v0; pointwise) (by unfold res_main_call4_cst; pointwise; exact bits_bot)
    (by unfold res_main_call4_c; pointwise),
    show rows (res_main_v30 W) r = gate (rows (res_main_v19 W)) r from funext fun e => ref_gate W r e]
  exact uitofp_lane _ _

/-- The logits without each row's first expert. -/
theorem ref_rest (r : Fin 4096) (e : Fin 16) : res_main_v35 W (ix2 r e) = rest (rows (res_main_v19 W)) r e := by
  unfold res_main_v35
  pointwise
  rw [ref_mask1]
  unfold mask1 rest hot
  by_cases h : e = pick1 (rows (res_main_v19 W)) r
  · rw [if_pos h, if_pos h]
    exact (if_pos zero_lt_one).trans bits_bot
  · rw [if_neg h, if_neg h]
    exact if_neg (lt_irrefl _)

/-- The reference's second mask. -/
theorem ref_mask2 (r : Fin 4096) (e : Fin 16) : res_main_v37 W (ix2 r e) = mask2 (rows (res_main_v19 W)) r e := by
  unfold res_main_v37
  pointwise
  rw [ref_pick _ _ _ _ (fun r e => by unfold res_main_call7_v0; pointwise) (by unfold res_main_call7_cst; pointwise; exact bits_bot)
    (by unfold res_main_call7_c; pointwise),
    show rows (res_main_v35 W) r = rest (rows (res_main_v19 W)) r from funext fun e => ref_rest W r e]
  exact uitofp_lane _ _

/-- A running sum down the columns. -/
theorem ref_running (v : FVec Ideal S4096x16 .f32) (b : FVec Ideal S_ .f32) (hb : b ix0 = 0) (r : Fin 4096) (e : Fin 16) :
    Host.reduceWindowAdd ![4096, 1] ![1, 1] ![4095, 0] ![0, 0] v b
      reduceWindows_S4096x16_S4096x16_w4096s1p4095_0_w1s1p0_0 h_S_ (ix2 r e) = run (fun i => v (ix2 i e)) (r.val + 1) := by
  refine (window_column_add (N := 4096) (M := 4095) (C := 16) rfl v (ext fun i => v (ix2 i e)) e (fun i => (ext_val (fun i => v (ix2 i e)) i).symm) b h_S_
    ((congrArg b (Subsingleton.elim _ _)).trans hb) reduceWindows_S4096x16_S4096x16_w4096s1p4095_0_w1s1p0_0 r).trans ?_
  exact sum_window (fun i => v (ix2 i e)) r

theorem ref_place1 (r : Fin 4096) (e : Fin 16) : res_main_v40 W (ix2 r e) = place1 (rows (res_main_v19 W)) r e := by
  unfold res_main_v40
  pointwise
  rw [ref_running _ _ (by pointwise)]
  simp only [ref_mask1]
  rfl

theorem ref_place2 (r : Fin 4096) (e : Fin 16) : res_main_v47 W (ix2 r e) = place2 (rows (res_main_v19 W)) r e := by
  unfold res_main_v47
  pointwise
  rw [ref_running _ _ (by pointwise)]
  simp only [ref_mask1, ref_mask2]
  rfl

theorem ref_kept1 (r : Fin 4096) (e : Fin 16) : res_main_v61 W (ix2 r e) = kept1 (rows (res_main_v19 W)) r e := by
  unfold res_main_v61
  pointwise
  rw [ref_mask1, ref_place1]
  rw [uitofp_bool, bits_512]
  unfold kept1 kept
  simp only [decide_eq_true_eq]

theorem ref_kept2 (r : Fin 4096) (e : Fin 16) : res_main_v65 W (ix2 r e) = kept2 (rows (res_main_v19 W)) r e := by
  unfold res_main_v65
  pointwise
  rw [ref_mask2, ref_place2]
  rw [uitofp_bool, bits_512]
  unfold kept2 kept
  simp only [decide_eq_true_eq]

theorem ref_weight1 (r : Fin 4096) :
    res_main_v67 W (ix1 r) = weight (rows (res_main_v19 W)) (kept1 (rows (res_main_v19 W))) r := by
  unfold res_main_v67
  pointwise
  simp only [ref_gate, ref_kept1]
  rfl

theorem ref_weight2 (r : Fin 4096) :
    res_main_v69 W (ix1 r) = weight (rows (res_main_v19 W)) (kept2 (rows (res_main_v19 W))) r := by
  unfold res_main_v69
  pointwise
  simp only [ref_gate, ref_kept2]
  rfl

theorem ref_denom (r : Fin 4096) : res_main_v72 W (ix1 r) = denom (rows (res_main_v19 W)) r := by
  unfold res_main_v72
  pointwise
  simp only [ref_weight1, ref_weight2]
  rfl

end Cert.Value

end
-- ==== Proof.Value.Logits.lean ====
/-
  The logits of the routing table in terms of the three arguments: the kernel's, block of 512 rows by block.
-/
module

public import proofs.«01_k».proof.Proof.PI.Run
public import proofs.«01_k».proof.Proof.Value.Table

@[expose] public section

set_option maxRecDepth 16384

noncomputable section

namespace Cert.Value

open Idealize.ShloMosaic Idealize.ShloMosaic.TcCoe Cert.KernelIdeal Cert.KernelIdeal.Gen Cert.KernelIdeal.Phases

/-- The length to which an expert's row is brought first. -/
abbrev norm : EReal := Ideal.ofBits .f32 1069547520#32
/-- The least length an expert's row is divided by. -/
abbrev floor : EReal := Ideal.ofBits .f32 953267991#32

/-- The experts' rows brought to the length `norm`. -/
def scaled (z : FVec Ideal S16x4 .f32) (e : Fin 16) (k : Fin 4) : EReal :=
  z (ix2 e k) * Ideal.div norm (Ideal.sqrt (∑ i : Fin 4, z (ix2 e i) * z (ix2 e i)))

/-- Divided by their length. -/
def direction (z : FVec Ideal S16x4 .f32) (e : Fin 16) (k : Fin 4) : EReal :=
  Ideal.div (scaled z e k) (max (Ideal.sqrt (∑ i : Fin 4, scaled z e i * scaled z e i)) floor)

/-- The logits: the tokens' rows, projected, against the experts' directions. -/
def logit (x : FVec Ideal S4096x4096 .f32) (y : FVec Ideal S4x4096 .f32) (z : FVec Ideal S16x4 .f32) : Rows := fun r e =>
  ∑ k : Fin 4, (∑ i : Fin 4096, x (ix2 r i) * y (ix2 k i)) * direction z e k

variable (m : (ℓ : Loc nD τ sig) → Buf (Elt Ideal) ℓ)

theorem index0 : ∀ t : Fin cfg0.N, t.val < 8 → win0_0.index t 0 = t.val ∧ win0_0.index t 1 = 0 :=
  (by decide +kernel : ∀ t : Fin grid0.N, t.val < 8 → win0_0.index t 0 = t.val ∧ win0_0.index t 1 = 0)

/-- The tokens' block at a point, in the tokens' array. -/
theorem tokens_at (c : Dev nD) (r : Fin 4096) (i : Fin 4096) :
    iblk m c 0 (rowPoint r) (ix2 ⟨r.val % 512, Nat.mod_lt _ (by decide)⟩ i : S512x4096.Idx)
      = m ((c.tc : Thread nD τ).loc main_arg0) (ix2 r i) := by
  have h := r.isLt
  obtain ⟨h0, h1⟩ := index0 (rowPoint r) (by show r.val / 512 < 8; omega)
  refine Eq.trans (b := m ((c.tc : Thread nD τ).loc main_arg0)
    ((win0_0.rect (rowPoint r)).emb (ix2 ⟨r.val % 512, Nat.mod_lt _ (by decide)⟩ i : S512x4096.Idx))) rfl
    (congrArg (m ((c.tc : Thread nD τ).loc main_arg0)) ?_)
  funext a; apply Fin.ext; rw [Pipeline.Window.rect_emb_val win0_0 _ _ _ rfl]
  match a with
  | ⟨0, _⟩ =>
    show win0_0.index (rowPoint r) 0 * 512 + r.val % 512 = r.val
    rw [h0]; show r.val / 512 * 512 + r.val % 512 = r.val; omega
  | ⟨1, _⟩ => show win0_0.index (rowPoint r) 1 * 4096 + i.val = i.val; rw [h1]; omega

/-- The other two arguments are read whole. -/
theorem projection_at (c : Dev nD) (t : Fin cfg0.N) (y : S4x4096.Idx) :
    iblk m c 1 t y = m ((c.tc : Thread nD τ).loc main_arg1) y := by
  refine Eq.trans (b := m ((c.tc : Thread nD τ).loc main_arg1) ((win0_1.rect t).emb y)) rfl
    (congrArg (m ((c.tc : Thread nD τ).loc main_arg1)) ?_)
  funext a; apply Fin.ext
  exact Pipeline.Window.rect_emb_val_of_index_zero win0_1 t a (by match a with | ⟨0, _⟩ => rfl | ⟨1, _⟩ => rfl) y

theorem experts_at (c : Dev nD) (t : Fin cfg0.N) (y : S16x4.Idx) :
    iblk m c 2 t y = m ((c.tc : Thread nD τ).loc main_arg2) y := by
  refine Eq.trans (b := m ((c.tc : Thread nD τ).loc main_arg2) ((win0_2.rect t).emb y)) rfl
    (congrArg (m ((c.tc : Thread nD τ).loc main_arg2)) ?_)
  funext a; apply Fin.ext
  exact Pipeline.Window.rect_emb_val_of_index_zero win0_2 t a (by match a with | ⟨0, _⟩ => rfl | ⟨1, _⟩ => rfl) y

/-- A block of the logits as the kernel computes it. -/
theorem block_logit (x : FVec Ideal S512x4096 .f32) (y : FVec Ideal S4x4096 .f32) (z : FVec Ideal S16x4 .f32) (r : Fin 512)
    (e : Fin 16) : k0_pay1 x y z (ix2 r e)
      = ∑ k : Fin 4, (∑ i : Fin 4096, x (ix2 r i) * y (ix2 k i)) * direction z e k := by
  pointwise [k0_pay1]
  refine Finset.sum_congr rfl fun k _ => congrArg₂ (· * ·) (Finset.sum_congr rfl fun i _ => mul_comm _ _) rfl

theorem logits_at (c : Dev nD) : rows (logits m c)
    = logit (m ((c.tc : Thread nD τ).loc main_arg0)) (m ((c.tc : Thread nD τ).loc main_arg1))
        (m ((c.tc : Thread nD τ).loc main_arg2)) := by
  funext r e
  show k0_pay1 (iblk m c 0 (rowPoint r)) (iblk m c 1 (rowPoint r)) (iblk m c 2 (rowPoint r)) (blockIx (ix2 r e)) = _
  rw [show (iblk m c 1 (rowPoint r) : FVec Ideal S4x4096 .f32) = _ from funext (projection_at m c _),
    show (iblk m c 2 (rowPoint r) : FVec Ideal S16x4 .f32) = _ from funext (experts_at m c _),
    show blockIx (ix2 r e) = ix2 ⟨r.val % 512, Nat.mod_lt _ (by decide)⟩ e from by
      funext a
      match a with
      | ⟨0, _⟩ => rfl
      | ⟨1, _⟩ => rfl]
  refine (block_logit _ _ _ _ _).trans ?_
  exact Finset.sum_congr rfl fun k _ =>
    congrArg (· * _) (Finset.sum_congr rfl fun i _ => congrArg (· * _) (tokens_at m c r i))

end Cert.Value

end
-- ==== Proof.Value.Finite.lean ====
/-
  Where the tokens and the projection are finite, so are the logits, whatever the experts' rows hold.
-/
module

public import proofs.«01_k».proof.Defs
public import proofs.«01_k».proof.Proof.Value.Logits
public import Idealize.ShloMosaic.Lib.ReduceAll

@[expose] public section

set_option maxRecDepth 16384

noncomputable section

namespace Cert.Value

open Idealize.ShloMosaic

/-! ## Finite values -/

/-- A value that is a number. -/
def IsNumber (x : EReal) : Prop := ∃ a : ℝ, x = (a : EReal)

theorem IsNumber.mul {x y : EReal} : IsNumber x → IsNumber y → IsNumber (x * y) := by
  rintro ⟨a, rfl⟩ ⟨b, rfl⟩
  exact ⟨a * b, (EReal.coe_mul a b).symm⟩

/-- The number a sum of numbers is. -/
theorem coe_sum {ι : Type} (s : Finset ι) (g : ι → ℝ) : ((∑ i ∈ s, g i : ℝ) : EReal) = ∑ i ∈ s, (g i : EReal) :=
  map_sum (⟨⟨Real.toEReal, rfl⟩, EReal.coe_add⟩ : ℝ →+ EReal) g s

theorem IsNumber.sum {ι : Type} (s : Finset ι) (f : ι → EReal) (h : ∀ i, IsNumber (f i)) : IsNumber (∑ i ∈ s, f i) := by
  choose g hg using h
  exact ⟨∑ i ∈ s, g i, by rw [coe_sum]; exact Finset.sum_congr rfl fun i _ => hg i⟩

theorem IsNumber.div {x y : EReal} (hx : IsNumber x) (hy : IsNumber y) (h : y ≠ 0) : IsNumber (Ideal.div x y) := by
  obtain ⟨a, rfl⟩ := hx
  obtain ⟨b, rfl⟩ := hy
  rw [Ideal.div_coe (by rintro rfl; exact h rfl)]
  exact ⟨_, (EReal.coe_mul _ _).symm⟩

/-- The length of a row of numbers is a number. -/
theorem length_number {f : Fin 4 → EReal} (h : ∀ i, IsNumber (f i)) :
    ∃ a : ℝ, 0 ≤ a ∧ Ideal.sqrt (∑ i, f i * f i) = (a : EReal) ∧ (∀ i, f i ≠ 0 → a ≠ 0) := by
  choose g hg using h
  have hs : ∑ i, f i * f i = ((∑ i, g i * g i : ℝ) : EReal) := by
    rw [coe_sum]
    exact Finset.sum_congr rfl fun i _ => by rw [hg, EReal.coe_mul]
  have h0 : 0 ≤ ∑ i, g i * g i := Finset.sum_nonneg fun i _ => mul_self_nonneg _
  refine ⟨Real.sqrt (∑ i, g i * g i), Real.sqrt_nonneg _, ?_, fun i hi hz => hi ?_⟩
  · rw [hs, Ideal.sqrt_coe, if_neg (not_lt.mpr h0)]
  · have hi0 := (Finset.sum_eq_zero_iff_of_nonneg fun i _ => mul_self_nonneg (g i)).mp ((Real.sqrt_eq_zero h0).mp hz) i
      (Finset.mem_univ i)
    rw [hg, mul_self_eq_zero.mp hi0]
    rfl

theorem square_nonneg (x : EReal) : 0 ≤ x * x := by
  induction x using EReal.rec with
  | bot => simp
  | top => simp
  | coe a => rw [← EReal.coe_mul]; exact EReal.coe_nonneg.mpr (mul_self_nonneg a)

/-- The square of an infinite value is the upper infinite one. -/
theorem square_infinite {x : EReal} (h : ¬ IsNumber x) : x * x = ⊤ := by
  induction x using EReal.rec with
  | bot => simp
  | top => simp
  | coe a => exact absurd ⟨a, rfl⟩ h

/-- A row with an infinite entry is infinitely long. -/
theorem length_infinite {f : Fin 4 → EReal} (h : ¬ ∀ i, IsNumber (f i)) : Ideal.sqrt (∑ i, f i * f i) = ⊤ := by
  obtain ⟨i, hi⟩ := not_forall.mp h
  have hle := Finset.single_le_sum (f := fun i => f i * f i) (fun i _ => square_nonneg (f i)) (Finset.mem_univ i)
  rw [top_le_iff.mp ((square_infinite hi).ge.trans hle), Ideal.sqrt_top]

/-- The rows brought to a length are numbers: a row of zeros stays one, and a row with an infinite entry becomes one. -/
theorem scaled_number (z : FVec Ideal KernelIdeal.S16x4 .f32) (e : Fin 16) (k : Fin 4) : IsNumber (scaled z e k) := by
  unfold scaled
  by_cases hz : ∀ i : Fin 4, IsNumber (z (ix2 e i))
  · obtain ⟨a, -, ha, hne⟩ := length_number hz
    by_cases h : z (ix2 e k) = 0
    · rw [h, zero_mul]
      exact ⟨0, rfl⟩
    · rw [ha]
      exact (hz _).mul (IsNumber.div bits_norm ⟨a, rfl⟩ (by rw [ne_eq, EReal.coe_eq_zero]; exact hne k h))
  · rw [length_infinite hz, Ideal.div, if_neg EReal.top_ne_zero, EReal.inv_top, mul_zero, mul_zero]
    exact ⟨0, rfl⟩

theorem direction_number (z : FVec Ideal KernelIdeal.S16x4 .f32) (e : Fin 16) (k : Fin 4) : IsNumber (direction z e k) := by
  obtain ⟨a, -, ha, -⟩ := length_number fun i : Fin 4 => scaled_number z e i
  obtain ⟨b, hb, hf⟩ := bits_floor
  unfold direction
  have hm : max (Ideal.sqrt (∑ i : Fin 4, scaled z e i * scaled z e i)) floor = ((max a b : ℝ) : EReal) := by
    rw [ha, show floor = (b : EReal) from hf]
    exact (EReal.coe_strictMono.monotone.map_max).symm
  rw [hm]
  exact (scaled_number z e k).div ⟨_, rfl⟩ (by rw [ne_eq, EReal.coe_eq_zero]; exact (lt_of_lt_of_le hb (le_max_right a b)).ne')

/-- The logits of finite tokens and a finite projection are numbers. -/
theorem logit_number {x : FVec Ideal KernelIdeal.S4096x4096 .f32} {y : FVec Ideal KernelIdeal.S4x4096 .f32}
    (z : FVec Ideal KernelIdeal.S16x4 .f32) (hx : ∀ i, IsNumber (x i)) (hy : ∀ i, IsNumber (y i)) (r : Fin 4096)
    (e : Fin 16) : IsNumber (logit x y z r e) :=
  IsNumber.sum _ _ fun k => (IsNumber.sum _ _ fun i => (hx _).mul (hy _)).mul (direction_number z e k)

/-! ## The precondition -/

/-- A value whose absolute value lies below the infinite one is a number. -/
theorem number_of_abs (x : EReal) (h : FloatOps.absf (F := Ideal) (φ := .f32) x < Ideal.ofBits .f32 2139095040#32) : IsNumber x := by
  rw [bits_top] at h
  change max x (-x) < ⊤ at h
  induction x using EReal.rec with
  | bot => simp at h
  | top => simp at h
  | coe a => exact ⟨a, rfl⟩

theorem abs_of_number {x : EReal} (h : IsNumber x) : FloatOps.absf (F := Ideal) (φ := .f32) x < Ideal.ofBits .f32 2139095040#32 := by
  obtain ⟨a, rfl⟩ := h
  rw [bits_top]
  show max (a : EReal) (-(a : EReal)) < ⊤
  exact max_lt (EReal.coe_lt_top a) (by rw [← EReal.coe_neg]; exact EReal.coe_lt_top _)

/-- Two truth values that hold together hold each. -/
theorem both (a b : BitVec 1) (h : IntOp.andi a b = 1#1) : a = 1#1 ∧ b = 1#1 := by
  revert a b; decide

/-- One element's part of the precondition. -/
theorem number_of_compare {s : Shape} (x b : FVec Ideal s .f32) (hb : b = fun _ => Ideal.ofBits .f32 2139095040#32) (i : s.Idx)
    (h : cmpf .olt (Host.absf x) b i = 1#1) : IsNumber (x i) := by
  refine number_of_abs (x i) ?_
  subst hb
  by_contra hn
  have h' : BitVec.ofBool (decide (FloatOps.absf (F := Ideal) (φ := .f32) (x i) < Ideal.ofBits .f32 2139095040#32)) = 1#1 := h
  rw [decide_eq_false hn] at h'
  exact absurd h' (by decide)

variable [Pre_finite_inputs.Facts]

/-- The precondition says that the tokens and the projection hold numbers. -/
theorem numbers_of_pre (x : FVec Ideal KernelIdeal.S4096x4096 .f32) (y : FVec Ideal KernelIdeal.S4x4096 .f32)
    (z : FVec Ideal KernelIdeal.S16x4 .f32) (h : Pre_finite_inputs.fn (F := Ideal) x y z = fun _ => 1#1) :
    (∀ i, IsNumber (x i)) ∧ ∀ i, IsNumber (y i) := by
  have h0 := congrFun h ix0
  dsimp only [Pre_finite_inputs.fn] at h0
  obtain ⟨h0, h1⟩ := both _ _ h0
  refine ⟨fun i => ?_, fun i => ?_⟩
  · exact number_of_compare x _ rfl i (Host.reduce_andi_all _ _ _ _ ix0 h0 i)
  · exact number_of_compare y _ rfl i (Host.reduce_andi_all _ _ _ _ ix0 h1 i)

end Cert.Value

end
-- ==== Proof.Value.RefLogits.lean ====
/-
  The reference's logits in terms of the three arguments; where the tokens and the projection are finite so are the
  logits, and the reference, which replaces logits that are not finite, keeps them all.
-/
module

public import proofs.«01_k».proof.Proof.Ref.Run
public import proofs.«01_k».proof.Proof.Value.Finite

@[expose] public section

set_option maxRecDepth 16384

noncomputable section

namespace Cert.Value

open Idealize.ShloMosaic Cert.ReferenceIdeal Cert.ReferenceIdeal.Gen Cert.ReferenceIdeal.Value

variable (W : Valuation τ sig (Elt Ideal))

theorem ref_scaled (e : Fin 16) (k : Fin 4) :
    res_main_v6 W (ix2 e k) = scaled (W (Proc.devRef .tc main_arg2)) e k := by
  unfold res_main_v6
  pointwise
  rfl

theorem ref_logit (r : Fin 4096) (e : Fin 16) : res_main_v13 W (ix2 r e)
    = logit (W (Proc.devRef .tc main_arg0)) (W (Proc.devRef .tc main_arg1)) (W (Proc.devRef .tc main_arg2)) r e := by
  unfold res_main_v13
  pointwise
  simp only [ref_scaled]
  rfl

/-- A logit that is a number is kept. -/
theorem ref_kept_logit (r : Fin 4096) (e : Fin 16) (h : IsNumber (res_main_v13 W (ix2 r e))) :
    res_main_v19 W (ix2 r e) = res_main_v13 W (ix2 r e) := by
  unfold res_main_v19 res_main_v16
  pointwise
  exact if_pos (abs_of_number h)

/-- The table's rows, of tokens and a projection that hold numbers. -/
theorem ref_rows (hx : ∀ i, IsNumber (W (Proc.devRef .tc main_arg0) i)) (hy : ∀ i, IsNumber (W (Proc.devRef .tc main_arg1) i)) :
    rows (res_main_v19 W)
      = logit (W (Proc.devRef .tc main_arg0)) (W (Proc.devRef .tc main_arg1)) (W (Proc.devRef .tc main_arg2)) := by
  funext r e
  refine (ref_kept_logit W r e ?_).trans (ref_logit W r e)
  rw [ref_logit]
  exact logit_number _ hx hy r e

end Cert.Value

end
-- ==== Proof.Value.RefResults.lean ====
/-
  The reference's three results as values of the routing table.
-/
module

public import proofs.«01_k».proof.Proof.Value.RefTable
public import proofs.«01_k».proof.Proof.Value.RefLogits
public import proofs.«01_k».proof.Proof.Value.Combine

@[expose] public section

set_option maxRecDepth 16384

noncomputable section

namespace Cert.Value

open Idealize.ShloMosaic Idealize.ShloMosaic.TcCoe Idealize.ShloMosaic.StableHlo
open Cert.ReferenceIdeal Cert.ReferenceIdeal.Gen Cert.ReferenceIdeal.Value

/-- A comparison of two words, as a float. -/
theorem uitofp_eq (a b : BitVec 32) :
    FloatOps.uitofp (F := Ideal) .f32 (IntOp.cmpi .eq a b) = if a = b then 1 else 0 := by
  refine (uitofp_bool (a == b)).trans ?_
  simp only [beq_iff_eq]

/-- A mean over the tokens. -/
theorem div_4096 (x : EReal) : Ideal.div x ((4096 : ℝ) : EReal) = x * (((4096 : ℝ)⁻¹ : ℝ) : EReal) := by
  rw [Ideal.div_coe (by norm_num), one_div]

/-- A mean over the experts, times the square of their number. -/
theorem div_16_mul_256 (x : EReal) : Ideal.div x ((16 : ℝ) : EReal) * ((256 : ℝ) : EReal) = x * ((16 : ℝ) : EReal) := by
  rw [Ideal.div_coe (by norm_num), mul_assoc, ← EReal.coe_mul]
  norm_num

variable (m : (ℓ : Loc nD τ sig) → Buf (Elt Ideal) ℓ) (ρ : Dev nD → PrngReg)

/-- The rows of the reference's table. -/
abbrev refTable (c : Dev nD) : Rows := rows (res_main_v19 (launchContents m c))

theorem ref_results : θ_run defs (onTc (τ := τ) (main (F := Ideal))) ⟨m, fun _ => 0, ρ⟩ (fun r => ∀ c : Dev nD,
      r.2.mem ((c.tc : Thread nD τ).loc main_v57) = (fun _ => balance (refTable m c))
      ∧ r.2.mem ((c.tc : Thread nD τ).loc main_v99)
          = (fun y : S4096x16x512.Idx => combine (refTable m c) (y 0) (y 1) (y 2))
      ∧ r.2.mem ((c.tc : Thread nD τ).loc main_v101)
          = (fun y : S4096x16x512.Idx => given (combine (refTable m c) (y 0) (y 1) (y 2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ?_) (Cert.ReferenceIdeal.Value.run m ρ)
  obtain ⟨h57, h99, h101, h0⟩ := h c
  have h99' : r.2.mem ((c.tc : Thread nD τ).loc main_v99)
      = (fun y : S4096x16x512.Idx => combine (refTable m c) (y 0) (y 1) (y 2)) := by
    refine h99.trans ?_
    funext y
    obtain ⟨r, e, s, rfl⟩ : ∃ (r : Fin 4096) (e : Fin 16) (s : Fin 512), y = ix3 r e s := ⟨y 0, y 1, y 2, by
      funext a
      match a with
      | ⟨0, _⟩ => rfl
      | ⟨1, _⟩ => rfl
      | ⟨2, _⟩ => rfl⟩
    pointwise
    clear h57 h99 h101 h0 h
    simp only [ref_weight1, ref_weight2, ref_denom, ref_place1, ref_place2, ref_kept1, ref_kept2, uitofp_eq]
    exact combine_eq (refTable m c) r e s
  rw [h99.symm.trans h99'] at h101
  refine ⟨h57.trans ?_, h99', h101.trans ?_, h0⟩
  · clear h57 h99 h101 h0 h h99'
    funext y
    obtain rfl : y = ix0 := Subsingleton.elim _ _
    pointwise
    simp only [ref_gate, ref_mask1, bits_16, bits_256, bits_4096]
    simp only [div_4096, div_16_mul_256]
    rfl
  · clear h57 h99 h101 h0 h h99'
    funext y
    pointwise
    rfl

end Cert.Value

end
-- ==== Proof.Value.Equation.lean ====
/-
  The kernel and the reference, from equal arguments, the tokens and the projection finite, end with equal results: both
  leave the values of one routing table.
-/
module

public import proofs.«01_k».proof.Proof.Value.KernelResults
public import proofs.«01_k».proof.Proof.Value.RefResults

@[expose] public section

noncomputable section

namespace Cert.Value

open Idealize.ShloMosaic Idealize.ShloMosaic.TcCoe Idealize.SL.Sem

/-- The side conditions of the precondition's operations. -/
theorem pre_facts : Cert.Pre_finite_inputs.Facts where
  bcast_S_S4096x4096 := by decide
  reducesTo_S4096x4096_S_d0_1 := by decide
  h_S_ := by decide
  bcast_S_S4x4096 := by decide
  reducesTo_S4x4096_S_d0_1 := by decide

section

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

/-- The two tables are one. -/
theorem tables_eq [Pre_finite_inputs.Facts] (c : Dev KernelIdeal.nD) (x : FVec Ideal KernelIdeal.S4096x4096 .f32)
    (y : FVec Ideal KernelIdeal.S4x4096 .f32) (z : FVec Ideal KernelIdeal.S16x4 .f32)
    (hx : m ((c.tc : Thread KernelIdeal.nD KernelIdeal.τ).loc KernelIdeal.main_arg0) = x)
    (hy : m ((c.tc : Thread KernelIdeal.nD KernelIdeal.τ).loc KernelIdeal.main_arg1) = y)
    (hz : m ((c.tc : Thread KernelIdeal.nD KernelIdeal.τ).loc KernelIdeal.main_arg2) = z)
    (hx' : m' ((c.tc : Thread ReferenceIdeal.nD ReferenceIdeal.τ).loc ReferenceIdeal.main_arg0) = x)
    (hy' : m' ((c.tc : Thread ReferenceIdeal.nD ReferenceIdeal.τ).loc ReferenceIdeal.main_arg1) = y)
    (hz' : m' ((c.tc : Thread ReferenceIdeal.nD ReferenceIdeal.τ).loc ReferenceIdeal.main_arg2) = z)
    (h : Pre_finite_inputs.fn (F := Ideal) x y z = fun _ => 1#1) : refTable m' c = table m c := by
  obtain ⟨nx, ny⟩ := numbers_of_pre x y z h
  refine (ref_rows (StableHlo.launchContents m' c) (fun i => ?_) fun i => ?_).trans ?_
  · exact (congrArg IsNumber (congrFun hx' i)).mpr (nx i)
  · exact (congrArg IsNumber (congrFun hy' i)).mpr (ny i)
  · refine Eq.trans ?_ (logits_at m c).symm
    rw [hx, hy, hz]
    exact congr (congr (congrArg logit hx') hy') hz'

end

/-- The results are equal. -/
theorem equal : algebraic_KernelIdeal_ReferenceIdeal_pre_finite_inputs (hKernelIdeal := Cert.KernelIdeal.Gen.facts)
    (hReferenceIdeal := Cert.ReferenceIdeal.Gen.facts) (hPre_finite_inputs := pre_facts) := by
  haveI := pre_facts
  intro m g m' g' hp ha
  refine ⟨fun c _ => balance (table m c), fun c => combined m c, fun c y => given (combined m c y), kernel_results m g,
    (θ_run _ _ _).mono (fun r h c => ?_) (ref_results m' g')⟩
  obtain ⟨a0, a1, a2⟩ := ha c
  have e : refTable m' c = table m c := tables_eq m m' c _ _ _ rfl rfl rfl a0 a1 a2 (hp c)
  have hc := h c
  rw [e] at hc
  exact hc

end Cert.Value

end
-- ==== Proof.lean ====
/-
  The certificate of the fused top-2 gating kernel: the frames of the kernel, of its ideal program and of the reference;
  that the ideal program is the kernel over the extended reals; and that on finite tokens and a finite projection the three
  results of the ideal program and of the reference are equal.
-/
module

public import proofs.«01_k».proof.Defs
public import proofs.«01_k».proof.Proof.P.Run
public import proofs.«01_k».proof.Proof.PI.Run
public import proofs.«01_k».proof.Proof.Ref.Frame
public import proofs.«01_k».proof.Proof.Value.Equation

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Value.pre_facts,
    fun m ρ _ => Cert.Kernel.Phases.frame m ρ, fun m ρ _ => Cert.KernelIdeal.Phases.frame m ρ,
    fun m ρ _ => Cert.KernelIdeal.Phases.frame m ρ, fun m ρ _ => Cert.ReferenceIdeal.Value.frame m ρ,
    fun m ρ _ => Cert.ReferenceIdeal.Value.frame m ρ, trivial, Cert.Value.equal⟩

end Cert.Proof

end
